-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "two_k1_over_n" .f32 0x3F8CCCCD#32 ((11 / 10 : ℝ) : EReal)
  ∧ IdealRules.named_const.Statement Cert.KernelIdeal.κ "inv_n2" .f32 0x3C23D70A#32 ((1 / 100 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v291) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x2048x80 : Shape := ⟨3, ![8, 2048, 80]⟩
abbrev S8 : Shape := ⟨1, ![8]⟩
abbrev S80x160 : Shape := ⟨2, ![80, 160]⟩
abbrev S160 : Shape := ⟨1, ![160]⟩
abbrev S160x80 : Shape := ⟨2, ![160, 80]⟩
abbrev S80 : Shape := ⟨1, ![80]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S8x2048x80 : S_.BroadcastsInDim S8x2048x80 (![] : Fin 0 → Fin S8x2048x80.rank)
  reducesTo_S8x2048x80_S_d0_1_2 : S8x2048x80.ReducesTo [0, 1, 2] S_
  bcast_S_S160x80 : S_.BroadcastsInDim S160x80 (![] : Fin 0 → Fin S160x80.rank)
  reducesTo_S160x80_S_d0_1 : S160x80.ReducesTo [0, 1] S_
  bcast_S_S80 : S_.BroadcastsInDim S80 (![] : Fin 0 → Fin S80.rank)
  reducesTo_S80_S_d0 : S80.ReducesTo [0] S_

variable [Facts]

def fn_part1 {F : FTy → Type} [FloatOps F] (main_v15 : IVec S_ 1) (main_v16 : FVec F S80 .f32) : IVec S_ 1 :=
  let main_cst_5 : FVec F S_ .f32 := constant S_ .f32 0x7F800000#32
  let main_v17 : FVec F S80 .f32 := broadcastInDim S80 ![] bcast_S_S80 main_cst_5
  let main_v18 : IVec S80 1 := cmpf .olt main_v16 main_v17
  let main_c_6 : IVec S_ 1 := constantI S_ 1 1#1
  let main_v19 : IVec S_ 1 := (fun x v => Host.reduce IntOp.andi x v reducesTo_S80_S_d0 h_S_) main_v18 main_c_6
  let main_v20 : IVec S_ 1 := andi main_v15 main_v19
  main_v20

def fn {F : FTy → Type} [FloatOps F] (main_arg0 : FVec F S8x2048x80 .f32) (main_arg1 : IVec S8 32) (main_arg2 : FVec F S8x2048x80 .f32) (main_arg3 : FVec F S80x160 .f32) (main_arg4 : FVec F S160 .f32) (main_arg5 : FVec F S160x80 .f32) (main_arg6 : FVec F S80 .f32) : IVec S_ 1 :=
  let main_c : IVec S_ 32 := constantI S_ 32 1024#32
  let main_v0 : IVec S8 32 := broadcastInDim S8 ![] bcast_S_S8 main_c
  let main_v1 : IVec S8 1 := cmpi .sge main_arg1 main_v0
  let main_c_0 : IVec S_ 32 := constantI S_ 32 2048#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_v6 : FVec F S8x2048x80 .f32 := Host.absf main_arg0
  let main_cst : FVec F S_ .f32 := constant S_ .f32 0x7F800000#32
  let main_v7 : FVec F S8x2048x80 .f32 := broadcastInDim S8x2048x80 ![] bcast_S_S8x2048x80 main_cst
  let main_v8 : IVec S8x2048x80 1 := cmpf .olt main_v6 main_v7
  let main_c_2 : IVec S_ 1 := constantI S_ 1 1#1
  let main_v9 : IVec S_ 1 := (fun x v => Host.reduce IntOp.andi x v reducesTo_S8x2048x80_S_d0_1_2 h_S_) main_v8 main_c_2
  let main_v10 : IVec S_ 1 := andi main_v5 main_v9
  let main_v11 : FVec F S160x80 .f32 := Host.absf main_arg5
  let main_cst_3 : FVec F S_ .f32 := constant S_ .f32 0x7F800000#32
  let main_v12 : FVec F S160x80 .f32 := broadcastInDim S160x80 ![] bcast_S_S160x80 main_cst_3
  let main_v13 : IVec S160x80 1 := cmpf .olt main_v11 main_v12
  let main_c_4 : IVec S_ 1 := constantI S_ 1 1#1
  let main_v14 : IVec S_ 1 := (fun x v => Host.reduce IntOp.andi x v reducesTo_S160x80_S_d0_1 h_S_) main_v13 main_c_4
  let main_v15 : IVec S_ 1 := andi main_v10 main_v14
  let main_v16 : FVec F S80 .f32 := Host.absf main_arg6
  fn_part1 (F := F) main_v15 main_v16
-- ==== Kernel.lean ====
abbrev S8x2048x80 : Shape := ⟨3, ![8, 2048, 80]⟩
abbrev S8 : Shape := ⟨1, ![8]⟩
abbrev S80x160 : Shape := ⟨2, ![80, 160]⟩
abbrev S160 : Shape := ⟨1, ![160]⟩
abbrev S160x80 : Shape := ⟨2, ![160, 80]⟩
abbrev S80 : Shape := ⟨1, ![80]⟩
abbrev S8x80x2048 : Shape := ⟨3, ![8, 80, 2048]⟩
abbrev S160x1 : Shape := ⟨2, ![160, 1]⟩
abbrev S80x1 : Shape := ⟨2, ![80, 1]⟩
abbrev S1x1 : Shape := ⟨2, ![1, 1]⟩
abbrev S_ : Shape := ⟨0, ![]⟩
abbrev S1x80x2048 : Shape := ⟨3, ![1, 80, 2048]⟩
abbrev S80x2048 : Shape := ⟨2, ![80, 2048]⟩
abbrev S160x2048 : Shape := ⟨2, ![160, 2048]⟩
abbrev S80x2047 : Shape := ⟨2, ![80, 2047]⟩
abbrev S80x2046 : Shape := ⟨2, ![80, 2046]⟩
abbrev S80x2 : Shape := ⟨2, ![80, 2]⟩
abbrev S80x2044 : Shape := ⟨2, ![80, 2044]⟩
abbrev S80x4 : Shape := ⟨2, ![80, 4]⟩
abbrev S80x2040 : Shape := ⟨2, ![80, 2040]⟩
abbrev S80x8 : Shape := ⟨2, ![80, 8]⟩
abbrev S1 : Shape := ⟨1, ![1]⟩
abbrev S1x1x1 : Shape := ⟨3, ![1, 1, 1]⟩

abbrev nBuf : Space → Nat
  | .hbm => 13
  | .vmem => 6
  | .smem => 2
  | _ => 0

abbrev bufTy : (tb : Table) → Fin (tcTables nBuf tb) → BufTy
  | .hbm, ⟨0, _⟩ => ⟨S8x2048x80, .f32⟩
  | .hbm, ⟨1, _⟩ => ⟨S8x2048x80, .f32⟩
  | .hbm, ⟨2, _⟩ => ⟨S80x160, .f32⟩
  | .hbm, ⟨3, _⟩ => ⟨S160, .f32⟩
  | .hbm, ⟨4, _⟩ => ⟨S160x80, .f32⟩
  | .hbm, ⟨5, _⟩ => ⟨S80, .f32⟩
  | .hbm, ⟨6, _⟩ => ⟨S8x80x2048, .f32⟩
  | .hbm, ⟨7, _⟩ => ⟨S160x80, .f32⟩
  | .hbm, ⟨8, _⟩ => ⟨S160x1, .f32⟩
  | .hbm, ⟨9, _⟩ => ⟨S80x160, .f32⟩
  | .hbm, ⟨10, _⟩ => ⟨S80x1, .f32⟩
  | .hbm, ⟨11, _⟩ => ⟨S1x1, .f32⟩
  | .hbm, ⟨12, _⟩ => ⟨S_, .f32⟩
  | .local _ .vmem, ⟨0, _⟩ => ⟨S1x80x2048, .f32⟩
  | .local _ .vmem, ⟨1, _⟩ => ⟨S1x80x2048, .f32⟩
  | .local _ .vmem, ⟨2, _⟩ => ⟨S160x80, .f32⟩
  | .local _ .vmem, ⟨3, _⟩ => ⟨S160x1, .f32⟩
  | .local _ .vmem, ⟨4, _⟩ => ⟨S80x160, .f32⟩
  | .local _ .vmem, ⟨5, _⟩ => ⟨S80x1, .f32⟩
  | .local _ .smem, ⟨0, _⟩ => ⟨S8, .i32⟩
  | .local _ .smem, ⟨1, _⟩ => ⟨S1x1, .f32⟩
  | _, _ => ⟨S8x2048x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v37 : Index := Scalar.indexCast arg0
  ![v37.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x80x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S160x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S80x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "inv_n2" => some ((1 / 100 : ℝ) : EReal)
  | "two_k1_over_n" => some ((11 / 10 : ℝ) : EReal)
  | _ => none
-- ==== ReferenceIdeal.lean ====
abbrev S8x2048x80 : Shape := ⟨3, ![8, 2048, 80]⟩
abbrev S8 : Shape := ⟨1, ![8]⟩
abbrev S80x160 : Shape := ⟨2, ![80, 160]⟩
abbrev S160 : Shape := ⟨1, ![160]⟩
abbrev S160x80 : Shape := ⟨2, ![160, 80]⟩
abbrev S80 : Shape := ⟨1, ![80]⟩
abbrev S2038 : Shape := ⟨1, ![2038]⟩
abbrev S1x2038 : Shape := ⟨2, ![1, 2038]⟩
abbrev S8x1 : Shape := ⟨2, ![8, 1]⟩
abbrev S_ : Shape := ⟨0, ![]⟩
abbrev S8x2038 : Shape := ⟨2, ![8, 2038]⟩
abbrev S8x2038x1 : Shape := ⟨3, ![8, 2038, 1]⟩
abbrev S8x2038x80 : Shape := ⟨3, ![8, 2038, 80]⟩
abbrev S2038x1 : Shape := ⟨2, ![2038, 1]⟩
abbrev S10 : Shape := ⟨1, ![10]⟩
abbrev S1x10 : Shape := ⟨2, ![1, 10]⟩
abbrev S2038x10 : Shape := ⟨2, ![2038, 10]⟩
abbrev S2038x10x1 : Shape := ⟨3, ![2038, 10, 1]⟩
abbrev S8x2038x10x80 : Shape := ⟨4, ![8, 2038, 10, 80]⟩
abbrev S8x2038x1x1 : Shape := ⟨4, ![8, 2038, 1, 1]⟩
abbrev S16304x1 : Shape := ⟨2, ![16304, 1]⟩
abbrev S8x2038x160 : Shape := ⟨3, ![8, 2038, 160]⟩
abbrev S1x1x160 : Shape := ⟨3, ![1, 1, 160]⟩
abbrev S1x1x80 : Shape := ⟨3, ![1, 1, 80]⟩
abbrev S8x2038x1x80 : Shape := ⟨4, ![8, 2038, 1, 80]⟩
abbrev S8x2038x1x10x80 : Shape := ⟨5, ![8, 2038, 1, 10, 80]⟩
abbrev S16304x80 : Shape := ⟨2, ![16304, 80]⟩
abbrev S1 : Shape := ⟨1, ![1]⟩

abbrev nBuf : Space → Nat
  | .hbm => 403
  | .vmem => 0
  | .smem => 0
  | _ => 0

abbrev hbmTy0_0 (i : Nat) : BufTy := match i % 128 with
  | 0 => ⟨S8x2048x80, .f32⟩
  | 1 => ⟨S8, .i32⟩
  | 2 => ⟨S8x2048x80, .f32⟩
  | 3 => ⟨S80x160, .f32⟩
  | 4 => ⟨S160, .f32⟩
  | 5 => ⟨S160x80, .f32⟩
  | 6 => ⟨S80, .f32⟩
  | 7 => ⟨S2038, .i32⟩
  | 8 => ⟨S1x2038, .i32⟩
  | 9 => ⟨S8x1, .i32⟩
  | 10 => ⟨S_, .i32⟩
  | 11 => ⟨S8x1, .i32⟩
  | 12 => ⟨S8x1, .i32⟩
  | 13 => ⟨S8x2038, .i32⟩
  | 14 => ⟨S8x2038, .i32⟩
  | 15 => ⟨S8x2038, .i1⟩
  | 16 => ⟨S8x2038x1, .i1⟩
  | 17 => ⟨S8x2038x80, .f32⟩
  | 18 => ⟨S_, .f32⟩
  | 19 => ⟨S_, .f32⟩
  | 20 => ⟨S8x2038x80, .i1⟩
  | 21 => ⟨S8x2038x80, .f32⟩
  | 22 => ⟨S8x2038x80, .f32⟩
  | 23 => ⟨S2038x1, .i32⟩
  | 24 => ⟨S10, .i32⟩
  | 25 => ⟨S_, .i32⟩
  | 26 => ⟨S10, .i32⟩
  | 27 => ⟨S10, .i32⟩
  | 28 => ⟨S1x10, .i32⟩
  | 29 => ⟨S2038x10, .i32⟩
  | 30 => ⟨S2038x10, .i32⟩
  | 31 => ⟨S2038x10, .i32⟩
  | 32 => ⟨S_, .i32⟩
  | 33 => ⟨S2038x10, .i32⟩
  | 34 => ⟨S2038x10, .i1⟩
  | 35 => ⟨S_, .i32⟩
  | 36 => ⟨S2038x10, .i32⟩
  | 37 => ⟨S2038x10, .i32⟩
  | 38 => ⟨S2038x10, .i32⟩
  | 39 => ⟨S2038x10x1, .i32⟩
  | 40 => ⟨S8x2038x10x80, .f32⟩
  | 41 => ⟨S8x2038x1x1, .i1⟩
  | 42 => ⟨S_, .f32⟩
  | 43 => ⟨S_, .f32⟩
  | 44 => ⟨S8x2038x10x80, .i1⟩
  | 45 => ⟨S8x2038x10x80, .f32⟩
  | 46 => ⟨S8x2038x10x80, .f32⟩
  | 47 => ⟨S16304x1, .i1⟩
  | 48 => ⟨S8x2038x160, .f32⟩
  | 49 => ⟨S1x1x160, .f32⟩
  | 50 => ⟨S8x2038x160, .f32⟩
  | 51 => ⟨S8x2038x160, .f32⟩
  | 52 => ⟨S8x2038x160, .f32⟩
  | 53 => ⟨S8x2038x80, .f32⟩
  | 54 => ⟨S1x1x80, .f32⟩
  | 55 => ⟨S8x2038x80, .f32⟩
  | 56 => ⟨S8x2038x80, .f32⟩
  | 57 => ⟨S8x2038x1x80, .f32⟩
  | 58 => ⟨S8x2038x1x10x80, .f32⟩
  | 59 => ⟨S8x2038x10x80, .f32⟩
  | 60 => ⟨S_, .f32⟩
  | 61 => ⟨S8x2038x80, .f32⟩
  | 62 => ⟨S_, .f32⟩
  | 63 => ⟨S8x2038x80, .f32⟩
  | 64 => ⟨S8x2038x80, .f32⟩
  | 65 => ⟨S16304x80, .f32⟩
  | 66 => ⟨S_, .f32⟩
  | 67 => ⟨S8x2038x80, .f32⟩
  | 68 => ⟨S_, .f32⟩
  | 69 => ⟨S8x2038x80, .f32⟩
  | 70 => ⟨S8x2038x80, .f32⟩
  | 71 => ⟨S16304x80, .f32⟩
  | 72 => ⟨S16304x80, .f32⟩
  | 73 => ⟨S16304x80, .f32⟩
  | 74 => ⟨S_, .f32⟩
  | 75 => ⟨S_, .f32⟩
  | 76 => ⟨S16304x80, .i1⟩
  | 77 => ⟨S16304x80, .f32⟩
  | 78 => ⟨S16304x80, .f32⟩
  | 79 => ⟨S_, .f32⟩
  | 80 => ⟨S_, .f32⟩
  | 81 => ⟨S8x2038x10x80, .f32⟩
  | 82 => ⟨S8x2038x160, .f32⟩
  | 83 => ⟨S1x1x160, .f32⟩
  | 84 => ⟨S8x2038x160, .f32⟩
  | 85 => ⟨S8x2038x160, .f32⟩
  | 86 => ⟨S8x2038x160, .f32⟩
  | 87 => ⟨S8x2038x80, .f32⟩
  | 88 => ⟨S1x1x80, .f32⟩
  | 89 => ⟨S8x2038x80, .f32⟩
  | 90 => ⟨S8x2038x80, .f32⟩
  | 91 => ⟨S8x2038x1x80, .f32⟩
  | 92 => ⟨S8x2038x1x10x80, .f32⟩
  | 93 => ⟨S8x2038x10x80, .f32⟩
  | 94 => ⟨S_, .f32⟩
  | 95 => ⟨S8x2038x80, .f32⟩
  | 96 => ⟨S_, .f32⟩
  | 97 => ⟨S8x2038x80, .f32⟩
  | 98 => ⟨S8x2038x80, .f32⟩
  | 99 => ⟨S16304x80, .f32⟩
  | 100 => ⟨S_, .f32⟩
  | 101 => ⟨S8x2038x80, .f32⟩
  | 102 => ⟨S_, .f32⟩
  | 103 => ⟨S8x2038x80, .f32⟩
  | 104 => ⟨S8x2038x80, .f32⟩
  | 105 => ⟨S16304x80, .f32⟩
  | 106 => ⟨S16304x80, .f32⟩
  | 107 => ⟨S16304x80, .f32⟩
  | 108 => ⟨S_, .f32⟩
  | 109 => ⟨S_, .f32⟩
  | 110 => ⟨S16304x80, .i1⟩
  | 111 => ⟨S16304x80, .f32⟩
  | 112 => ⟨S16304x80, .f32⟩
  | 113 => ⟨S_, .f32⟩
  | 114 => ⟨S_, .f32⟩
  | 115 => ⟨S8x2038x10x80, .f32⟩
  | 116 => ⟨S8x2038x160, .f32⟩
  | 117 => ⟨S1x1x160, .f32⟩
  | 118 => ⟨S8x2038x160, .f32⟩
  | 119 => ⟨S8x2038x160, .f32⟩
  | 120 => ⟨S8x2038x160, .f32⟩
  | 121 => ⟨S8x2038x80, .f32⟩
  | 122 => ⟨S1x1x80, .f32⟩
  | 123 => ⟨S8x2038x80, .f32⟩
  | 124 => ⟨S8x2038x80, .f32⟩
  | 125 => ⟨S8x2038x1x80, .f32⟩
  | 126 => ⟨S8x2038x1x10x80, .f32⟩
  | 127 => ⟨S8x2038x10x80, .f32⟩
  | _ => ⟨S8x2048x80, .f32⟩

abbrev hbmTy0_1 (i : Nat) : BufTy := match i % 128 with
  | 0 => ⟨S_, .f32⟩
  | 1 => ⟨S8x2038x80, .f32⟩
  | 2 => ⟨S_, .f32⟩
  | 3 => ⟨S8x2038x80, .f32⟩
  | 4 => ⟨S8x2038x80, .f32⟩
  | 5 => ⟨S16304x80, .f32⟩
  | 6 => ⟨S_, .f32⟩
  | 7 => ⟨S8x2038x80, .f32⟩
  | 8 => ⟨S_, .f32⟩
  | 9 => ⟨S8x2038x80, .f32⟩
  | 10 => ⟨S8x2038x80, .f32⟩
  | 11 => ⟨S16304x80, .f32⟩
  | 12 => ⟨S16304x80, .f32⟩
  | 13 => ⟨S16304x80, .f32⟩
  | 14 => ⟨S_, .f32⟩
  | 15 => ⟨S_, .f32⟩
  | 16 => ⟨S16304x80, .i1⟩
  | 17 => ⟨S16304x80, .f32⟩
  | 18 => ⟨S16304x80, .f32⟩
  | 19 => ⟨S_, .f32⟩
  | 20 => ⟨S_, .f32⟩
  | 21 => ⟨S8x2038x10x80, .f32⟩
  | 22 => ⟨S8x2038x160, .f32⟩
  | 23 => ⟨S1x1x160, .f32⟩
  | 24 => ⟨S8x2038x160, .f32⟩
  | 25 => ⟨S8x2038x160, .f32⟩
  | 26 => ⟨S8x2038x160, .f32⟩
  | 27 => ⟨S8x2038x80, .f32⟩
  | 28 => ⟨S1x1x80, .f32⟩
  | 29 => ⟨S8x2038x80, .f32⟩
  | 30 => ⟨S8x2038x80, .f32⟩
  | 31 => ⟨S8x2038x1x80, .f32⟩
  | 32 => ⟨S8x2038x1x10x80, .f32⟩
  | 33 => ⟨S8x2038x10x80, .f32⟩
  | 34 => ⟨S_, .f32⟩
  | 35 => ⟨S8x2038x80, .f32⟩
  | 36 => ⟨S_, .f32⟩
  | 37 => ⟨S8x2038x80, .f32⟩
  | 38 => ⟨S8x2038x80, .f32⟩
  | 39 => ⟨S16304x80, .f32⟩
  | 40 => ⟨S_, .f32⟩
  | 41 => ⟨S8x2038x80, .f32⟩
  | 42 => ⟨S_, .f32⟩
  | 43 => ⟨S8x2038x80, .f32⟩
  | 44 => ⟨S8x2038x80, .f32⟩
  | 45 => ⟨S16304x80, .f32⟩
  | 46 => ⟨S16304x80, .f32⟩
  | 47 => ⟨S16304x80, .f32⟩
  | 48 => ⟨S_, .f32⟩
  | 49 => ⟨S_, .f32⟩
  | 50 => ⟨S16304x80, .i1⟩
  | 51 => ⟨S16304x80, .f32⟩
  | 52 => ⟨S16304x80, .f32⟩
  | 53 => ⟨S_, .f32⟩
  | 54 => ⟨S_, .f32⟩
  | 55 => ⟨S8x2038x10x80, .f32⟩
  | 56 => ⟨S8x2038x160, .f32⟩
  | 57 => ⟨S1x1x160, .f32⟩
  | 58 => ⟨S8x2038x160, .f32⟩
  | 59 => ⟨S8x2038x160, .f32⟩
  | 60 => ⟨S8x2038x160, .f32⟩
  | 61 => ⟨S8x2038x80, .f32⟩
  | 62 => ⟨S1x1x80, .f32⟩
  | 63 => ⟨S8x2038x80, .f32⟩
  | 64 => ⟨S8x2038x80, .f32⟩
  | 65 => ⟨S8x2038x1x80, .f32⟩
  | 66 => ⟨S8x2038x1x10x80, .f32⟩
  | 67 => ⟨S8x2038x10x80, .f32⟩
  | 68 => ⟨S_, .f32⟩
  | 69 => ⟨S8x2038x80, .f32⟩
  | 70 => ⟨S_, .f32⟩
  | 71 => ⟨S8x2038x80, .f32⟩
  | 72 => ⟨S8x2038x80, .f32⟩
  | 73 => ⟨S16304x80, .f32⟩
  | 74 => ⟨S_, .f32⟩
  | 75 => ⟨S8x2038x80, .f32⟩
  | 76 => ⟨S_, .f32⟩
  | 77 => ⟨S8x2038x80, .f32⟩
  | 78 => ⟨S8x2038x80, .f32⟩
  | 79 => ⟨S16304x80, .f32⟩
  | 80 => ⟨S16304x80, .f32⟩
  | 81 => ⟨S16304x80, .f32⟩
  | 82 => ⟨S_, .f32⟩
  | 83 => ⟨S_, .f32⟩
  | 84 => ⟨S16304x80, .i1⟩
  | 85 => ⟨S16304x80, .f32⟩
  | 86 => ⟨S16304x80, .f32⟩
  | 87 => ⟨S_, .f32⟩
  | 88 => ⟨S_, .f32⟩
  | 89 => ⟨S8x2038x10x80, .f32⟩
  | 90 => ⟨S8x2038x160, .f32⟩
  | 91 => ⟨S1x1x160, .f32⟩
  | 92 => ⟨S8x2038x160, .f32⟩
  | 93 => ⟨S8x2038x160, .f32⟩
  | 94 => ⟨S8x2038x160, .f32⟩
  | 95 => ⟨S8x2038x80, .f32⟩
  | 96 => ⟨S1x1x80, .f32⟩
  | 97 => ⟨S8x2038x80, .f32⟩
  | 98 => ⟨S8x2038x80, .f32⟩
  | 99 => ⟨S8x2038x1x80, .f32⟩
  | 100 => ⟨S8x2038x1x10x80, .f32⟩
  | 101 => ⟨S8x2038x10x80, .f32⟩
  | 102 => ⟨S_, .f32⟩
  | 103 => ⟨S8x2038x80, .f32⟩
  | 104 => ⟨S_, .f32⟩
  | 105 => ⟨S8x2038x80, .f32⟩
  | 106 => ⟨S8x2038x80, .f32⟩
  | 107 => ⟨S16304x80, .f32⟩
  | 108 => ⟨S_, .f32⟩
  | 109 => ⟨S8x2038x80, .f32⟩
  | 110 => ⟨S_, .f32⟩
  | 111 => ⟨S8x2038x80, .f32⟩
  | 112 => ⟨S8x2038x80, .f32⟩
  | 113 => ⟨S16304x80, .f32⟩
  | 114 => ⟨S16304x80, .f32⟩
  | 115 => ⟨S16304x80, .f32⟩
  | 116 => ⟨S_, .f32⟩
  | 117 => ⟨S_, .f32⟩
  | 118 => ⟨S16304x80, .i1⟩
  | 119 => ⟨S16304x80, .f32⟩
  | 120 => ⟨S16304x80, .f32⟩
  | 121 => ⟨S_, .f32⟩
  | 122 => ⟨S_, .f32⟩
  | 123 => ⟨S8x2038x10x80, .f32⟩
  | 124 => ⟨S8x2038x160, .f32⟩
  | 125 => ⟨S1x1x160, .f32⟩
  | 126 => ⟨S8x2038x160, .f32⟩
  | 127 => ⟨S8x2038x160, .f32⟩
  | _ => ⟨S8x2048x80, .f32⟩

abbrev hbmTy0_2 (i : Nat) : BufTy := match i % 128 with
  | 0 => ⟨S8x2038x160, .f32⟩
  | 1 => ⟨S8x2038x80, .f32⟩
  | 2 => ⟨S1x1x80, .f32⟩
  | 3 => ⟨S8x2038x80, .f32⟩
  | 4 => ⟨S8x2038x80, .f32⟩
  | 5 => ⟨S8x2038x1x80, .f32⟩
  | 6 => ⟨S8x2038x1x10x80, .f32⟩
  | 7 => ⟨S8x2038x10x80, .f32⟩
  | 8 => ⟨S_, .f32⟩
  | 9 => ⟨S8x2038x80, .f32⟩
  | 10 => ⟨S_, .f32⟩
  | 11 => ⟨S8x2038x80, .f32⟩
  | 12 => ⟨S8x2038x80, .f32⟩
  | 13 => ⟨S16304x80, .f32⟩
  | 14 => ⟨S_, .f32⟩
  | 15 => ⟨S8x2038x80, .f32⟩
  | 16 => ⟨S_, .f32⟩
  | 17 => ⟨S8x2038x80, .f32⟩
  | 18 => ⟨S8x2038x80, .f32⟩
  | 19 => ⟨S16304x80, .f32⟩
  | 20 => ⟨S16304x80, .f32⟩
  | 21 => ⟨S16304x80, .f32⟩
  | 22 => ⟨S_, .f32⟩
  | 23 => ⟨S_, .f32⟩
  | 24 => ⟨S16304x80, .i1⟩
  | 25 => ⟨S16304x80, .f32⟩
  | 26 => ⟨S16304x80, .f32⟩
  | 27 => ⟨S_, .f32⟩
  | 28 => ⟨S_, .f32⟩
  | 29 => ⟨S8x2038x10x80, .f32⟩
  | 30 => ⟨S8x2038x160, .f32⟩
  | 31 => ⟨S1x1x160, .f32⟩
  | 32 => ⟨S8x2038x160, .f32⟩
  | 33 => ⟨S8x2038x160, .f32⟩
  | 34 => ⟨S8x2038x160, .f32⟩
  | 35 => ⟨S8x2038x80, .f32⟩
  | 36 => ⟨S1x1x80, .f32⟩
  | 37 => ⟨S8x2038x80, .f32⟩
  | 38 => ⟨S8x2038x80, .f32⟩
  | 39 => ⟨S8x2038x1x80, .f32⟩
  | 40 => ⟨S8x2038x1x10x80, .f32⟩
  | 41 => ⟨S8x2038x10x80, .f32⟩
  | 42 => ⟨S_, .f32⟩
  | 43 => ⟨S8x2038x80, .f32⟩
  | 44 => ⟨S_, .f32⟩
  | 45 => ⟨S8x2038x80, .f32⟩
  | 46 => ⟨S8x2038x80, .f32⟩
  | 47 => ⟨S16304x80, .f32⟩
  | 48 => ⟨S_, .f32⟩
  | 49 => ⟨S8x2038x80, .f32⟩
  | 50 => ⟨S_, .f32⟩
  | 51 => ⟨S8x2038x80, .f32⟩
  | 52 => ⟨S8x2038x80, .f32⟩
  | 53 => ⟨S16304x80, .f32⟩
  | 54 => ⟨S16304x80, .f32⟩
  | 55 => ⟨S16304x80, .f32⟩
  | 56 => ⟨S_, .f32⟩
  | 57 => ⟨S_, .f32⟩
  | 58 => ⟨S16304x80, .i1⟩
  | 59 => ⟨S16304x80, .f32⟩
  | 60 => ⟨S16304x80, .f32⟩
  | 61 => ⟨S_, .f32⟩
  | 62 => ⟨S_, .f32⟩
  | 63 => ⟨S8x2038x10x80, .f32⟩
  | 64 => ⟨S8x2038x160, .f32⟩
  | 65 => ⟨S1x1x160, .f32⟩
  | 66 => ⟨S8x2038x160, .f32⟩
  | 67 => ⟨S8x2038x160, .f32⟩
  | 68 => ⟨S8x2038x160, .f32⟩
  | 69 => ⟨S8x2038x80, .f32⟩
  | 70 => ⟨S1x1x80, .f32⟩
  | 71 => ⟨S8x2038x80, .f32⟩
  | 72 => ⟨S8x2038x80, .f32⟩
  | 73 => ⟨S8x2038x1x80, .f32⟩
  | 74 => ⟨S8x2038x1x10x80, .f32⟩
  | 75 => ⟨S8x2038x10x80, .f32⟩
  | 76 => ⟨S_, .f32⟩
  | 77 => ⟨S8x2038x80, .f32⟩
  | 78 => ⟨S_, .f32⟩
  | 79 => ⟨S8x2038x80, .f32⟩
  | 80 => ⟨S8x2038x80, .f32⟩
  | 81 => ⟨S16304x80, .f32⟩
  | 82 => ⟨S_, .f32⟩
  | 83 => ⟨S8x2038x80, .f32⟩
  | 84 => ⟨S_, .f32⟩
  | 85 => ⟨S8x2038x80, .f32⟩
  | 86 => ⟨S8x2038x80, .f32⟩
  | 87 => ⟨S16304x80, .f32⟩
  | 88 => ⟨S16304x80, .f32⟩
  | 89 => ⟨S16304x80, .f32⟩
  | 90 => ⟨S_, .f32⟩
  | 91 => ⟨S_, .f32⟩
  | 92 => ⟨S16304x80, .i1⟩
  | 93 => ⟨S16304x80, .f32⟩
  | 94 => ⟨S16304x80, .f32⟩
  | 95 => ⟨S_, .f32⟩
  | 96 => ⟨S_, .f32⟩
  | 97 => ⟨S8x2038x10x80, .f32⟩
  | 98 => ⟨S8x2038x160, .f32⟩
  | 99 => ⟨S1x1x160, .f32⟩
  | 100 => ⟨S8x2038x160, .f32⟩
  | 101 => ⟨S8x2038x160, .f32⟩
  | 102 => ⟨S8x2038x160, .f32⟩
  | 103 => ⟨S8x2038x80, .f32⟩
  | 104 => ⟨S1x1x80, .f32⟩
  | 105 => ⟨S8x2038x80, .f32⟩
  | 106 => ⟨S8x2038x80, .f32⟩
  | 107 => ⟨S8x2038x1x80, .f32⟩
  | 108 => ⟨S8x2038x1x10x80, .f32⟩
  | 109 => ⟨S8x2038x10x80, .f32⟩
  | 110 => ⟨S_, .f32⟩
  | 111 => ⟨S8x2038x80, .f32⟩
  | 112 => ⟨S_, .f32⟩
  | 113 => ⟨S8x2038x80, .f32⟩
  | 114 => ⟨S8x2038x80, .f32⟩
  | 115 => ⟨S16304x80, .f32⟩
  | 116 => ⟨S_, .f32⟩
  | 117 => ⟨S8x2038x80, .f32⟩
  | 118 => ⟨S_, .f32⟩
  | 119 => ⟨S8x2038x80, .f32⟩
  | 120 => ⟨S8x2038x80, .f32⟩
  | 121 => ⟨S16304x80, .f32⟩
  | 122 => ⟨S16304x80, .f32⟩
  | 123 => ⟨S16304x80, .f32⟩
  | 124 => ⟨S_, .f32⟩
  | 125 => ⟨S_, .f32⟩
  | 126 => ⟨S16304x80, .i1⟩
  | 127 => ⟨S16304x80, .f32⟩
  | _ => ⟨S8x2048x80, .f32⟩

abbrev hbmTy0_3 (i : Nat) : BufTy := match i % 128 with
  | 0 => ⟨S16304x80, .f32⟩
  | 1 => ⟨S_, .f32⟩
  | 2 => ⟨S_, .f32⟩
  | 3 => ⟨S8x2038x10x80, .f32⟩
  | 4 => ⟨S1, .f32⟩
  | 5 => ⟨S1, .f32⟩
  | 6 => ⟨S1, .f32⟩
  | 7 => ⟨S1, .f32⟩
  | 8 => ⟨S1, .f32⟩
  | 9 => ⟨S1, .f32⟩
  | 10 => ⟨S1, .f32⟩
  | 11 => ⟨S1, .f32⟩
  | 12 => ⟨S1, .f32⟩
  | 13 => ⟨S1, .f32⟩
  | 14 => ⟨S10, .f32⟩
  | 15 => ⟨S_, .f32⟩
  | 16 => ⟨S_, .f32⟩
  | 17 => ⟨S_, .f32⟩
  | 18 => ⟨S_, .f32⟩
  | _ => ⟨S8x2048x80, .f32⟩

abbrev hbmTy (i : Nat) : BufTy := match i / 128 with
  | 0 => hbmTy0_0 i
  | 1 => hbmTy0_1 i
  | 2 => hbmTy0_2 i
  | 3 => hbmTy0_3 i
  | _ => ⟨S8x2048x80, .f32⟩

abbrev bufTy : (tb : Table) → Fin (tcTables nBuf tb) → BufTy
  | .hbm, ⟨i, _⟩ => hbmTy i
  | _, _ => ⟨S8x2048x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_10 : Ref sig .tc := ⟨.hbm, 94, rfl⟩
abbrev main_v66 : Ref sig .tc := ⟨.hbm, 95, rfl⟩
abbrev main_cst_11 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_12 : Ref sig .tc := ⟨.hbm, 100, rfl⟩
abbrev main_v70 : Ref sig .tc := ⟨.hbm, 101, rfl⟩
abbrev main_cst_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_14 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_v76 : Ref sig .tc := ⟨.hbm, 112, rfl⟩
abbrev main_cst_15 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_16 : Ref sig .tc := ⟨.hbm, 128, rfl⟩
abbrev main_v91 : Ref sig .tc := ⟨.hbm, 129, rfl⟩
abbrev main_cst_17 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_18 : Ref sig .tc := ⟨.hbm, 134, rfl⟩
abbrev main_v95 : Ref sig .tc := ⟨.hbm, 135, rfl⟩
abbrev main_cst_19 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_20 : Ref sig .tc := ⟨.hbm, 142, rfl⟩
abbrev main_call4_v0 : Ref sig .tc := ⟨.hbm, 143, rfl⟩
abbrev main_call4_v1 : Ref sig .tc := ⟨.hbm, 144, rfl⟩
abbrev main_call4_v2 : Ref sig .tc := ⟨.hbm, 145, rfl⟩
abbrev main_v101 : Ref sig .tc := ⟨.hbm, 146, rfl⟩
abbrev main_cst_21 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_22 : Ref sig .tc := ⟨.hbm, 162, rfl⟩
abbrev main_v116 : Ref sig .tc := ⟨.hbm, 163, rfl⟩
abbrev main_cst_23 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_24 : Ref sig .tc := ⟨.hbm, 168, rfl⟩
abbrev main_v120 : Ref sig .tc := ⟨.hbm, 169, rfl⟩
abbrev main_cst_25 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_26 : Ref sig .tc := ⟨.hbm, 176, rfl⟩
abbrev main_call5_v0 : Ref sig .tc := ⟨.hbm, 177, rfl⟩
abbrev main_call5_v1 : Ref sig .tc := ⟨.hbm, 178, rfl⟩
abbrev main_call5_v2 : Ref sig .tc := ⟨.hbm, 179, rfl⟩
abbrev main_v126 : Ref sig .tc := ⟨.hbm, 180, rfl⟩
abbrev main_cst_27 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_28 : Ref sig .tc := ⟨.hbm, 196, rfl⟩
abbrev main_v141 : Ref sig .tc := ⟨.hbm, 197, rfl⟩
abbrev main_cst_29 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_cst_30 : Ref sig .tc := ⟨.hbm, 202, rfl⟩
abbrev main_v145 : Ref sig .tc := ⟨.hbm, 203, rfl⟩
abbrev main_cst_31 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_cst_32 : Ref sig .tc := ⟨.hbm, 210, rfl⟩
abbrev main_call6_v0 : Ref sig .tc := ⟨.hbm, 211, rfl⟩
abbrev main_call6_v1 : Ref sig .tc := ⟨.hbm, 212, rfl⟩
abbrev main_call6_v2 : Ref sig .tc := ⟨.hbm, 213, rfl⟩
abbrev main_v151 : Ref sig .tc := ⟨.hbm, 214, rfl⟩
abbrev main_cst_33 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_cst_34 : Ref sig .tc := ⟨.hbm, 230, rfl⟩
abbrev main_v166 : Ref sig .tc := ⟨.hbm, 231, rfl⟩
abbrev main_cst_35 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_cst_36 : Ref sig .tc := ⟨.hbm, 236, rfl⟩
abbrev main_v170 : Ref sig .tc := ⟨.hbm, 237, rfl⟩
abbrev main_cst_37 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_cst_38 : Ref sig .tc := ⟨.hbm, 244, rfl⟩
abbrev main_call7_v0 : Ref sig .tc := ⟨.hbm, 245, rfl⟩
abbrev main_call7_v1 : Ref sig .tc := ⟨.hbm, 246, rfl⟩
abbrev main_call7_v2 : Ref sig .tc := ⟨.hbm, 247, rfl⟩
abbrev main_v176 : Ref sig .tc := ⟨.hbm, 248, rfl⟩
abbrev main_cst_39 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_cst_40 : Ref sig .tc := ⟨.hbm, 264, rfl⟩
abbrev main_v191 : Ref sig .tc := ⟨.hbm, 265, rfl⟩
abbrev main_cst_41 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_cst_42 : Ref sig .tc := ⟨.hbm, 270, rfl⟩
abbrev main_v195 : Ref sig .tc := ⟨.hbm, 271, rfl⟩
abbrev main_cst_43 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_cst_44 : Ref sig .tc := ⟨.hbm, 278, rfl⟩
abbrev main_call8_v0 : Ref sig .tc := ⟨.hbm, 279, rfl⟩
abbrev main_call8_v1 : Ref sig .tc := ⟨.hbm, 280, rfl⟩
abbrev main_call8_v2 : Ref sig .tc := ⟨.hbm, 281, rfl⟩
abbrev main_v201 : Ref sig .tc := ⟨.hbm, 282, rfl⟩
abbrev main_cst_45 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_cst_46 : Ref sig .tc := ⟨.hbm, 298, rfl⟩
abbrev main_v216 : Ref sig .tc := ⟨.hbm, 299, rfl⟩
abbrev main_cst_47 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_cst_48 : Ref sig .tc := ⟨.hbm, 304, rfl⟩
abbrev main_v220 : Ref sig .tc := ⟨.hbm, 305, rfl⟩
abbrev main_cst_49 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_cst_50 : Ref sig .tc := ⟨.hbm, 312, rfl⟩
abbrev main_call9_v0 : Ref sig .tc := ⟨.hbm, 313, rfl⟩
abbrev main_call9_v1 : Ref sig .tc := ⟨.hbm, 314, rfl⟩
abbrev main_call9_v2 : Ref sig .tc := ⟨.hbm, 315, rfl⟩
abbrev main_v226 : Ref sig .tc := ⟨.hbm, 316, rfl⟩
abbrev main_cst_51 : Ref sig .tc := ⟨.hbm, 317, rfl⟩
abbrev main_v227 : Ref sig .tc := ⟨.hbm, 318, rfl⟩
abbrev main_v228 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_v236 : Ref sig .tc := ⟨.hbm, 327, rfl⟩
abbrev main_v237 : Ref sig .tc := ⟨.hbm, 328, rfl⟩
abbrev main_v238 : Ref sig .tc := ⟨.hbm, 329, rfl⟩
abbrev main_v239 : Ref sig .tc := ⟨.hbm, 330, rfl⟩
abbrev main_v240 : Ref sig .tc := ⟨.hbm, 331, rfl⟩
abbrev main_cst_52 : Ref sig .tc := ⟨.hbm, 332, rfl⟩
abbrev main_v241 : Ref sig .tc := ⟨.hbm, 333, rfl⟩
abbrev main_cst_53 : Ref sig .tc := ⟨.hbm, 334, rfl⟩
abbrev main_v242 : Ref sig .tc := ⟨.hbm, 335, rfl⟩
abbrev main_v243 : Ref sig .tc := ⟨.hbm, 336, rfl⟩
abbrev main_v244 : Ref sig .tc := ⟨.hbm, 337, rfl⟩
abbrev main_cst_54 : Ref sig .tc := ⟨.hbm, 338, rfl⟩
abbrev main_v245 : Ref sig .tc := ⟨.hbm, 339, rfl⟩
abbrev main_cst_55 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_v249 : Ref sig .tc := ⟨.hbm, 344, rfl⟩
abbrev main_v250 : Ref sig .tc := ⟨.hbm, 345, rfl⟩
abbrev main_cst_56 : Ref sig .tc := ⟨.hbm, 346, rfl⟩
abbrev main_call10_v0 : Ref sig .tc := ⟨.hbm, 347, rfl⟩
abbrev main_call10_v1 : Ref sig .tc := ⟨.hbm, 348, rfl⟩
abbrev main_call10_v2 : Ref sig .tc := ⟨.hbm, 349, rfl⟩
abbrev main_v251 : Ref sig .tc := ⟨.hbm, 350, rfl⟩
abbrev main_cst_57 : Ref sig .tc := ⟨.hbm, 351, rfl⟩
abbrev main_v252 : Ref sig .tc := ⟨.hbm, 352, rfl⟩
abbrev main_v253 : Ref sig .tc := ⟨.hbm, 353, rfl⟩
abbrev main_v254 : Ref sig .tc := ⟨.hbm, 354, rfl⟩
abbrev main_v255 : Ref sig .tc := ⟨.hbm, 355, rfl⟩
abbrev main_v256 : Ref sig .tc := ⟨.hbm, 356, rfl⟩
abbrev main_v257 : Ref sig .tc := ⟨.hbm, 357, rfl⟩
abbrev main_v258 : Ref sig .tc := ⟨.hbm, 358, rfl⟩
abbrev main_v259 : Ref sig .tc := ⟨.hbm, 359, rfl⟩
abbrev main_v260 : Ref sig .tc := ⟨.hbm, 360, rfl⟩
abbrev main_v261 : Ref sig .tc := ⟨.hbm, 361, rfl⟩
abbrev main_v262 : Ref sig .tc := ⟨.hbm, 362, rfl⟩
abbrev main_v263 : Ref sig .tc := ⟨.hbm, 363, rfl⟩
abbrev main_v264 : Ref sig .tc := ⟨.hbm, 364, rfl⟩
abbrev main_v265 : Ref sig .tc := ⟨.hbm, 365, rfl⟩
abbrev main_cst_58 : Ref sig .tc := ⟨.hbm, 366, rfl⟩
abbrev main_v266 : Ref sig .tc := ⟨.hbm, 367, rfl⟩
abbrev main_cst_59 : Ref sig .tc := ⟨.hbm, 368, rfl⟩
abbrev main_v267 : Ref sig .tc := ⟨.hbm, 369, rfl⟩
abbrev main_v268 : Ref sig .tc := ⟨.hbm, 370, rfl⟩
abbrev main_v269 : Ref sig .tc := ⟨.hbm, 371, rfl⟩
abbrev main_cst_60 : Ref sig .tc := ⟨.hbm, 372, rfl⟩
abbrev main_v270 : Ref sig .tc := ⟨.hbm, 373, rfl⟩
abbrev main_cst_61 : Ref sig .tc := ⟨.hbm, 374, rfl⟩
abbrev main_v271 : Ref sig .tc := ⟨.hbm, 375, rfl⟩
abbrev main_v272 : Ref sig .tc := ⟨.hbm, 376, rfl⟩
abbrev main_v273 : Ref sig .tc := ⟨.hbm, 377, rfl⟩
abbrev main_v274 : Ref sig .tc := ⟨.hbm, 378, rfl⟩
abbrev main_v275 : Ref sig .tc := ⟨.hbm, 379, rfl⟩
abbrev main_cst_62 : Ref sig .tc := ⟨.hbm, 380, rfl⟩
abbrev main_call11_v0 : Ref sig .tc := ⟨.hbm, 381, rfl⟩
abbrev main_call11_v1 : Ref sig .tc := ⟨.hbm, 382, rfl⟩
abbrev main_call11_v2 : Ref sig .tc := ⟨.hbm, 383, rfl⟩
abbrev main_v276 : Ref sig .tc := ⟨.hbm, 384, rfl⟩
abbrev main_cst_63 : Ref sig .tc := ⟨.hbm, 385, rfl⟩
abbrev main_v277 : Ref sig .tc := ⟨.hbm, 386, rfl⟩
abbrev main_v278 : Ref sig .tc := ⟨.hbm, 387, rfl⟩
abbrev main_v279 : Ref sig .tc := ⟨.hbm, 388, rfl⟩
abbrev main_v280 : Ref sig .tc := ⟨.hbm, 389, rfl⟩
abbrev main_v281 : Ref sig .tc := ⟨.hbm, 390, rfl⟩
abbrev main_v282 : Ref sig .tc := ⟨.hbm, 391, rfl⟩
abbrev main_v283 : Ref sig .tc := ⟨.hbm, 392, rfl⟩
abbrev main_v284 : Ref sig .tc := ⟨.hbm, 393, rfl⟩
abbrev main_v285 : Ref sig .tc := ⟨.hbm, 394, rfl⟩
abbrev main_v286 : Ref sig .tc := ⟨.hbm, 395, rfl⟩
abbrev main_v287 : Ref sig .tc := ⟨.hbm, 396, rfl⟩
abbrev main_v288 : Ref sig .tc := ⟨.hbm, 397, rfl⟩
abbrev main_v289 : Ref sig .tc := ⟨.hbm, 398, rfl⟩
abbrev main_cst_64 : Ref sig .tc := ⟨.hbm, 399, rfl⟩
abbrev main_v290 : Ref sig .tc := ⟨.hbm, 400, rfl⟩
abbrev main_cst_65 : Ref sig .tc := ⟨.hbm, 401, rfl⟩
abbrev main_v291 : Ref sig .tc := ⟨.hbm, 402, rfl⟩

abbrev nD : Nat := 1
abbrev τ : Topo := Topo.v7x

variable {F : FTy → Type} [FloatOps F]
-- ==== Proof.Words.lean ====
/- The comparison of a time with a sequence's length less ten, on 32-bit words. -/
module

public import Idealize.ShloMosaic.PureOps.Float
public import Idealize.ShloMosaic.Lib.Tactic.WordOmega

@[expose] public section

namespace Cert.Common

open Idealize.ShloMosaic

/-- A length of ten to 2048, less ten, does not wrap. -/
theorem toNat_sub_ten (l : BitVec 32) (hl : 10 ≤ l.toNat) : (l - 10#32).toNat = l.toNat - 10 := by
  rw [BitVec.toNat_sub_of_le]
  · rfl
  · rw [BitVec.le_def]; exact hl

/-- The signed comparison of a small time with the length less ten is the comparison of the numbers. -/
theorem cmpi_time (l : BitVec 32) (hl : 10 ≤ l.toNat) (hl' : l.toNat ≤ 2048) (t : ℕ) (ht : t < 2048) :
    IntOp.cmpi .slt (BitVec.ofNat 32 t) (l - 10#32) = BitVec.ofBool (decide (t < l.toNat - 10)) := by
  have h := toNat_sub_ten l hl
  rw [show IntOp.cmpi .slt (BitVec.ofNat 32 t) (l - 10#32) = BitVec.ofBool ((BitVec.ofNat 32 t).slt (l - 10#32)) from rfl]
  congr 1
  rw [Bool.eq_iff_iff, BitVec.slt_iff_toInt_lt, decide_eq_true_iff, BitVec.toInt_eq_toNat_of_lt (by rw [BitVec.toNat_ofNat]; omega),
    BitVec.toInt_eq_toNat_of_lt (by rw [h]; omega), h, BitVec.toNat_ofNat]
  omega

/-- A word that compares, signed, at least 1024 and at most 2048 reads as such a number. -/
theorem range_of_cmpi (l : BitVec 32) (h : IntOp.cmpi .sge l 1024#32 = 1#1) (h' : IntOp.cmpi .sle l 2048#32 = 1#1) :
    1024 ≤ l.toNat ∧ l.toNat ≤ 2048 := by
  have a : (1024 : ℤ) ≤ l.toInt := by
    rw [show IntOp.cmpi .sge l 1024#32 = BitVec.ofBool (decide ((1024#32).toInt ≤ l.toInt)) from rfl] at h
    by_contra hn
    rw [decide_eq_false (by exact hn)] at h
    exact absurd h (by decide)
  have b : l.toInt ≤ (2048 : ℤ) := by
    rw [show IntOp.cmpi .sle l 2048#32 = BitVec.ofBool (decide (l.toInt ≤ (2048#32).toInt)) from rfl] at h'
    by_contra hn
    rw [decide_eq_false (by exact hn)] at h'
    exact absurd h' (by decide)
  have hl := l.isLt
  rw [BitVec.toInt_eq_toNat_cond] at a b
  split at a <;> split at b <;> omega

/-- A number below 2048, as a word, is not negative. -/
theorem not_negative (v : ℕ) (h : v < 2048) : IntOp.cmpi .slt (BitVec.ofNat 32 v) 0#32 = 0#1 := by
  rw [show IntOp.cmpi .slt (BitVec.ofNat 32 v) 0#32 = BitVec.ofBool (decide ((BitVec.ofNat 32 v).toInt < (0#32).toInt)) from rfl,
    BitVec.toInt_ofNat']
  rw [decide_eq_false (by simp only [Int.bmod_def, BitVec.toInt_zero]; omega)]
  rfl

/-- Adding words adds numbers, whatever the order. -/
theorem frame_number (t j : ℕ) :
    IntOp.addi (BitVec.ofNat 32 t) (IntOp.addi 1#32 (BitVec.ofNat 32 j)) = BitVec.ofNat 32 (j + 1 + t) := by
  show BitVec.ofNat 32 t + (BitVec.ofNat 32 1 + BitVec.ofNat 32 j) = _
  rw [← BitVec.ofNat_add, ← BitVec.ofNat_add]
  congr 1
  omega

end Cert.Common

end
-- ==== Proof.Model.lean ====
/- The loss as plain mathematics: the estimate of a frame, its cost against the sum of the ten frames that follow, and
   the masked sum of the costs; with the facts of extended-real sums that the programs' values need. -/
module

public import Mathlib.Analysis.SpecialFunctions.Trigonometric.DerivHyp
public import Mathlib.Data.EReal.Operations
public import Mathlib.Algebra.BigOperators.Fin
public import Mathlib.Tactic.Ring
public import Idealize.ShloMosaic.PureOps.Ideal

@[expose] public section

noncomputable section

namespace Cert.Common

open Idealize.ShloMosaic

/-- A finite sum of reals, taken among the extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The estimate of one frame's successor sum, at feature `i`: two layers, the hyperbolic tangent between them. -/
def estimate (x : Fin 80 → EReal) (w : Fin 80 → Fin 160 → EReal) (b : Fin 160 → EReal) (w' : Fin 160 → Fin 80 → EReal)
    (b' : Fin 80 → EReal) (i : Fin 80) : EReal :=
  (∑ k : Fin 160, Ideal.tanh ((∑ j : Fin 80, x j * w j k) + b k) * w' k i) + b' i

/-- The hyperbolic tangent of an extended real is a real number. -/
theorem tanh_real (z : EReal) : ∃ r : ℝ, Ideal.tanh z = r := by
  induction z with
  | bot => exact ⟨-1, by simp⟩
  | coe r => exact ⟨Real.tanh r, rfl⟩
  | top => exact ⟨1, by simp⟩

/-- With real output weights and biases the estimate is a real number, whatever the frame and the first layer hold. -/
theorem estimate_real (x : Fin 80 → EReal) (w : Fin 80 → Fin 160 → EReal) (b : Fin 160 → EReal)
    (w' : Fin 160 → Fin 80 → EReal) (b' : Fin 80 → EReal) (i : Fin 80) (hw : ∀ k i, ∃ r : ℝ, w' k i = r)
    (hb : ∀ i, ∃ r : ℝ, b' i = r) : ((estimate x w b w' b' i).toReal : EReal) = estimate x w b w' b' i := by
  choose r hr using fun k => tanh_real ((∑ j : Fin 80, x j * w j k) + b k)
  choose v hv using hw
  obtain ⟨u, hu⟩ := hb i
  have h : estimate x w b w' b' i = (((∑ k, r k * v k i) + u : ℝ) : EReal) := by
    unfold estimate
    rw [EReal.coe_add, ← coe_sum, hu]
    congr 1
    exact Finset.sum_congr rfl fun k _ => by rw [hr, hv, EReal.coe_mul]
  rw [h, EReal.toReal_coe]

/-- The mean over the ten steps of the squared residuals, expanded: a quadratic in the estimate and the ten frames' sum. -/
def cost (e s : ℝ) : ℝ := 77 / 2 * (e * e) - 11 / 10 * (e * s) + 1 / 100 * (s * s)

/-- The ten squared residuals, averaged, are the quadratic. -/
theorem mean_residuals (e s : ℝ) : (∑ k : Fin 10, ((k.val + 1 : ℝ) * e - s / 10) * ((k.val + 1 : ℝ) * e - s / 10)) * (1 / 10) = cost e s := by
  simp only [Fin.sum_univ_succ, Fin.sum_univ_zero, cost]
  simp
  ring

/-- One sequence's costs added over its first `n` times and all features. -/
def total (n : ℕ) (e s : Fin 2038 → Fin 80 → ℝ) : ℝ :=
  ∑ t : Fin 2038, ∑ i : Fin 80, if t.val < n then cost (e t i) (s t i) else 0

/-- The ten steps' masked sums of squared residuals, averaged, are the sequences' totals. -/
theorem mean_total (n : Fin 8 → ℕ) (e s : Fin 8 → Fin 2038 → Fin 80 → ℝ) :
    (∑ k : Fin 10, ∑ p : Fin 8, ∑ t : Fin 2038, ∑ i : Fin 80,
      if t.val < n p then ((k.val + 1 : ℝ) * e p t i - s p t i / 10) * ((k.val + 1 : ℝ) * e p t i - s p t i / 10) else 0) * (1 / 10)
      = ∑ p, total (n p) (e p) (s p) := by
  unfold total
  rw [Finset.sum_comm, Finset.sum_mul]
  refine Finset.sum_congr rfl fun p _ => ?_
  rw [Finset.sum_comm, Finset.sum_mul]
  refine Finset.sum_congr rfl fun t _ => ?_
  rw [Finset.sum_comm, Finset.sum_mul]
  refine Finset.sum_congr rfl fun i _ => ?_
  by_cases h : t.val < n p
  · simp only [if_pos h]
    exact mean_residuals _ _
  · simp only [if_neg h, Finset.sum_const_zero, zero_mul]

/-- A sum over 2048 times of terms that vanish from time `n` on, `n` at most 2038, is the real sum over 2038 times. -/
theorem masked_sum (n : ℕ) (hn : n ≤ 2038) (f : Fin 80 → Fin 2048 → EReal) (g : Fin 2038 → Fin 80 → ℝ)
    (h : ∀ i (t : Fin 2038), t.val < n → f i ⟨t.val, by omega⟩ = g t i) (h0 : ∀ i (t : Fin 2048), n ≤ t.val → f i t = 0) :
    ∑ i, ∑ t, f i t = ((∑ t : Fin 2038, ∑ i : Fin 80, if t.val < n then g t i else 0 : ℝ) : EReal) := by
  rw [Finset.sum_comm, ← coe_sum]
  refine (Fin.sum_univ_add (a := 2038) (b := 10) fun t => ∑ i, f i t).trans ?_
  rw [Finset.sum_eq_zero (s := (Finset.univ : Finset (Fin 10))) fun t _ => Finset.sum_eq_zero fun i _ => h0 i _ (by simp; omega), add_zero]
  refine Finset.sum_congr rfl fun t _ => ?_
  rw [← coe_sum]
  refine Finset.sum_congr rfl fun i _ => ?_
  by_cases ht : t.val < n
  · rw [if_pos ht]; exact h i t ht
  · rw [if_neg ht]; exact h0 i _ (not_lt.1 ht)

/-- The three masked sums, weighted, are the masked sum of the costs. -/
theorem total_eq (n : ℕ) (e s : Fin 2038 → Fin 80 → ℝ) :
    77 / 2 * (∑ t : Fin 2038, ∑ i : Fin 80, if t.val < n then e t i * e t i else 0)
      - 11 / 10 * (∑ t : Fin 2038, ∑ i : Fin 80, if t.val < n then e t i * s t i else 0)
      + 1 / 100 * (∑ t : Fin 2038, ∑ i : Fin 80, if t.val < n then s t i * s t i else 0) = total n e s := by
  simp only [total, Finset.mul_sum, ← Finset.sum_sub_distrib, ← Finset.sum_add_distrib]
  refine Finset.sum_congr rfl fun t _ => Finset.sum_congr rfl fun i _ => ?_
  split_ifs <;> simp [cost]

/-- The estimate that sequence `x` gives at time `t` and feature `i`, as a real number. -/
def fitted (x : Fin 2048 → Fin 80 → EReal) (w : Fin 80 → Fin 160 → EReal) (b : Fin 160 → EReal)
    (w' : Fin 160 → Fin 80 → EReal) (b' : Fin 80 → EReal) (t : Fin 2038) (i : Fin 80) : ℝ :=
  (estimate (fun j => x ⟨t.val, by omega⟩ j) w b w' b' i).toReal

/-- The ten frames of sequence `x` after time `t`, added at feature `i`, as a real number. -/
def window (x : Fin 2048 → Fin 80 → EReal) (t : Fin 2038) (i : Fin 80) : ℝ :=
  ∑ j : Fin 10, (x ⟨j.val + 1 + t.val, by omega⟩ i).toReal

/-- The loss: every sequence's total, added. -/
def loss (x : Fin 8 → Fin 2048 → Fin 80 → EReal) (l : Fin 8 → BitVec 32) (w : Fin 80 → Fin 160 → EReal) (b : Fin 160 → EReal)
    (w' : Fin 160 → Fin 80 → EReal) (b' : Fin 80 → EReal) : ℝ :=
  ∑ p : Fin 8, total ((l p).toNat - 10) (fitted (x p) w b w' b') (window (x p))

/-- What the precondition says of the arguments: finite sequences, output weights and output biases, and lengths from
    1024 to 2048. -/
structure Drawn (x : Fin 8 → Fin 2048 → Fin 80 → EReal) (l : Fin 8 → BitVec 32) (w' : Fin 160 → Fin 80 → EReal)
    (b' : Fin 80 → EReal) : Prop where
  finite_x : ∀ p t i, ∃ r : ℝ, x p t i = r
  finite_w : ∀ k i, ∃ r : ℝ, w' k i = r
  finite_b : ∀ i, ∃ r : ℝ, b' i = r
  length_ge : ∀ p, 1024 ≤ (l p).toNat
  length_le : ∀ p, (l p).toNat ≤ 2048

end Cert.Common

end
-- ==== Proof.Payload.lean ====
/- The values that the kernel's body computes from one sequence's blocks, read at an index over the extended reals. -/
module

public import proofs.«01_k».proof.Proof.Gen.KernelIdeal.Skeleton
public import Idealize.ShloMosaic.Lib.Pointwise
public import proofs.«01_k».proof.Proof.Words
public import proofs.«01_k».proof.Proof.Model

@[expose] public section

set_option maxRecDepth 16384

noncomputable section

open Idealize.ShloMosaic Idealize.ShloMosaic.TcCoe Idealize.SL.Sem

namespace Cert.KernelIdeal.Value

open Cert.KernelIdeal Cert.KernelIdeal.Gen Cert.Common

/-- The kernel's estimate at feature `i` and time `t`: two layers over the transposed block. -/
theorem estimate_at (x : Vec Ideal S1x80x2048 .f32) (w : Vec Ideal S160x80 .f32) (b : Vec Ideal S160x1 .f32)
    (w' : Vec Ideal S80x160 .f32) (b' : Vec Ideal S80x1 .f32) (i : Fin 80) (t : Fin 2048) :
    k0_pay3 (F := Ideal) x w b w' b' (ix2 i t)
      = (∑ k : Fin 160, w' (ix2 i k) * Ideal.tanh ((∑ j : Fin 80, w (ix2 k j) * x (ix3 0 j t)) + b (ix2 k 0)))
          + b' (ix2 i 0) := by
  pointwise [k0_pay3, k0_pay2]

/-- The windowed sum at feature `i` and time `t`, a time with ten later ones in the block: these ten added. -/
theorem window_at (x : Vec Ideal S1x80x2048 .f32) (i : Fin 80) (t : Fin 2048) (ht : t.val < 2038) :
    k0_pay4 (F := Ideal) x (ix2 i t) = ∑ j : Fin 10, x (ix3 0 i ⟨j.val + 1 + t.val, by omega⟩) := by
  pointwise [k0_pay4, k0_pay2]
  have h (a : ℕ) (ha : a ≤ 8) : a + t.val < 2047 := by omega
  have h' (a : ℕ) (ha : a ≤ 8) : a + t.val < 2046 := by omega
  simp only [Fin.sum_univ_succ, Fin.sum_univ_zero]
  simp [show t.val < 2047 by omega, show t.val < 2046 by omega, show t.val < 2044 by omega, show t.val < 2040 by omega,
    ← Nat.add_assoc, h, h']
  simp only [add_assoc]

/-- The mask at feature `i` and time `t`: one before the sequence's length less ten, zero from there on. -/
theorem mask_at (l : BitVec 32) (hl : 10 ≤ l.toNat) (hl' : l.toNat ≤ 2048) (i : Fin 80) (t : Fin 2048) :
    k0_pay5 (F := Ideal) l (ix2 i t) = if t.val < l.toNat - 10 then 1 else 0 := by
  pointwise [k0_pay5]
  rw [show Scalar.subi l 10#32 = l - 10#32 from rfl, cmpi_time l hl hl' t.val t.isLt]
  show (((BitVec.setWidth 32 (BitVec.ofBool _)).toInt : ℝ) : EReal) = _
  by_cases h : t.val < l.toNat - 10 <;> simp [h]

/-- What the body stores: what the buffer held and the weighted difference of the three masked sums. -/
theorem step_at (e s v q : FVec Ideal S80x2048 .f32) (a : Ideal .f32) :
    k0_pay1 (F := Ideal) e s v q a
      = a + (((77 / 2 : ℝ) : EReal) * (∑ i : Fin 80, ∑ t : Fin 2048, q (ix2 i t) * e (ix2 i t))
          - ((11 / 10 : ℝ) : EReal) * (∑ i : Fin 80, ∑ t : Fin 2048, q (ix2 i t) * s (ix2 i t))
          + ((1 / 100 : ℝ) : EReal) * (∑ i : Fin 80, ∑ t : Fin 2048, (s (ix2 i t) * v (ix2 i t)) * s (ix2 i t))) := by
  have h1 : Named.named (F := Ideal) κ "two_k1_over_n" (φ := .f32) 0x3F8CCCCD#32 = ((11 / 10 : ℝ) : EReal) :=
    IdealRules.named_const.ideal_named_scalar _ _ _ _ rfl
  have h2 : Named.named (F := Ideal) κ "inv_n2" (φ := .f32) 0x3C23D70A#32 = ((1 / 100 : ℝ) : EReal) :=
    IdealRules.named_const.ideal_named_scalar _ _ _ _ rfl
  pointwise [k0_pay1]
  rw [h1, h2, show Ideal.ofBits .f32 1109000192#32 = ((77 / 2 : ℝ) : EReal) by
    simp [Ideal.ofBits, Ideal.ieee, -EReal.coe_mul]; norm_num]

/-- One point's store: what the cell held and the point's sequence's costs, when the estimates and the windowed sums
    are real at the times that the mask keeps. -/
theorem point_at (x : Vec Ideal S1x80x2048 .f32) (w : Vec Ideal S160x80 .f32) (b : Vec Ideal S160x1 .f32)
    (w' : Vec Ideal S80x160 .f32) (b' : Vec Ideal S80x1 .f32) (l : BitVec 32) (hl : 10 ≤ l.toNat) (hl' : l.toNat ≤ 2048)
    (a : Ideal .f32) (e s : Fin 2038 → Fin 80 → ℝ)
    (he : ∀ i (t : Fin 2038), t.val < l.toNat - 10 → k0_pay3 (F := Ideal) x w b w' b' (ix2 i ⟨t.val, by omega⟩) = (e t i : EReal))
    (hs : ∀ i (t : Fin 2038), t.val < l.toNat - 10 → k0_pay4 (F := Ideal) x (ix2 i ⟨t.val, by omega⟩) = (s t i : EReal)) :
    k0_pay1 (F := Ideal) (k0_pay3 x w b w' b') (k0_pay4 x) (k0_pay5 l) (k0_pay6 x w b w' b' l) a
      = a + ((total (l.toNat - 10) e s : ℝ) : EReal) := by
  have hn : l.toNat - 10 ≤ 2038 := by omega
  have hq (i : Fin 80) (t : Fin 2048) : k0_pay6 (F := Ideal) x w b w' b' l (ix2 i t)
      = k0_pay3 (F := Ideal) x w b w' b' (ix2 i t) * k0_pay5 (F := Ideal) l (ix2 i t) := by
    pointwise [k0_pay6]
  rw [step_at]
  simp only [hq, mask_at l hl hl']
  rw [masked_sum _ hn _ (fun t i => e t i * e t i) (fun i t ht => by rw [he i t ht, if_pos ht, mul_one, EReal.coe_mul])
      (fun i t ht => by rw [if_neg (not_lt.2 ht), mul_zero, zero_mul]),
    masked_sum _ hn _ (fun t i => e t i * s t i) (fun i t ht => by rw [he i t ht, hs i t ht, if_pos ht, mul_one, EReal.coe_mul])
      (fun i t ht => by rw [if_neg (not_lt.2 ht), mul_zero, zero_mul]),
    masked_sum _ hn _ (fun t i => s t i * s t i) (fun i t ht => by rw [hs i t ht, if_pos ht, mul_one, EReal.coe_mul])
      (fun i t ht => by rw [if_neg (not_lt.2 ht), mul_zero, zero_mul]),
    ← total_eq]
  simp only [EReal.coe_add, EReal.coe_sub, EReal.coe_mul]

end Cert.KernelIdeal.Value

end
-- ==== Proof.Blocks.lean ====
/- What each of the kernel's points leaves in the accumulated cell. -/
module

public import proofs.«01_k».proof.Proof.Gen.KernelIdeal.Frame
public import proofs.«01_k».proof.Proof.Payload
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The prefetched table restricts nothing: the index maps read no length. -/
theorem ok : Ok (F := Ideal) m := by
  unfold Ok ok0; trivial

/-- The one-element shape has one index. -/
theorem idx_one (i j : S1x1.Idx) : i = j := by
  funext a
  revert a
  have h : ∀ a : Fin 2, ∀ x y : Fin (S1x1.size a), x = y := by decide
  exact fun a => h a _ _

/-- The table entry that a grid point reads: the coordinate of the point. -/
def point (i : grid0.Coords) : Fin 8 := ⟨(i 0).val, (i 0).isLt⟩

/-- The word that the body loads from the table at a grid point is the entry under the point's coordinate. -/
theorem word_at (i : grid0.Coords) (xt : IVec S8 32) (h) (h') :
    View.ld (View.read (Elt Ideal) (View.whole main_arg1) xt) (Rect.unit (s := S8) (k0_off1 i) ![1] h) (Shape.Idx.first h')
      = xt (ix1 (point i)) := by
  have key : (k0_off1 i) 0 = (i 0).val := by
    show (BitVec.ofNat 32 (i 0).val).toNat = (i 0).val
    rw [BitVec.toNat_ofNat]
    exact Nat.mod_eq_of_lt (lt_trans (i 0).isLt (by decide))
  have first : ∀ h : 0 < (Rect.unit (s := S8) (k0_off1 i) ![1] h).shape.numel, (Shape.Idx.first h 0).val = 0 := fun h => by
    have := (Shape.Idx.first h 0).isLt
    exact Nat.lt_one_iff.mp this
  refine congrArg xt (funext fun a => Fin.ext ?_)
  obtain rfl : a = (0 : Fin 1) := Subsingleton.elim (α := Fin 1) a 0
  show (k0_off1 i) 0 + 1 * (Shape.Idx.first h' 0).val = (i 0).val
  rw [key, first, Nat.mul_zero, Nat.add_zero]

/-- What the first point leaves: its own part over a zero. -/
theorem out_first (c : Dev nD) (i : grid0.Coords) (arg2 : Memref sig .tc .vmem S1x80x2048 .f32) (harg2 : arg2.IsWhole)
    (arg3 : Memref sig .tc .vmem S160x80 .f32) (harg3 : arg3.IsWhole) (arg4 : Memref sig .tc .vmem S160x1 .f32) (harg4 : arg4.IsWhole)
    (arg5 : Memref sig .tc .vmem S80x160 .f32) (harg5 : arg5.IsWhole) (arg6 : Memref sig .tc .vmem S80x1 .f32) (harg6 : arg6.IsWhole)
    (arg7 : Memref sig .tc .smem S1x1 .f32) (harg7 : arg7.IsWhole) (hc : cond0_0 i)
    (x0 : Vec Ideal S1x80x2048 .f32) (x1 : Vec Ideal S160x80 .f32) (x2 : Vec Ideal S160x1 .f32) (x3 : Vec Ideal S80x160 .f32)
    (x4 : Vec Ideal S80x1 .f32) (xt0 : IVec S8 32) (j : S1x1.Idx) :
    out0_A_5 (F := Ideal) c i arg2 harg2 arg3 harg3 arg4 harg4 arg5 harg5 arg6 harg6 arg7 harg7 hc x0 x1 x2 x3 x4 xt0 j
      = k0_pay1 (F := Ideal) (k0_pay3 x0 x1 x2 x3 x4) (k0_pay4 x0) (k0_pay5 (xt0 (ix1 (point i)))) (k0_pay6 x0 x1 x2 x3 x4 (xt0 (ix1 (point i)))) 0 := by
  frame_out
  rw [word_at]
  exact congrArg (k0_pay1 (F := Ideal) _ _ _ _) Ideal.ofBits_zero_f32

/-- What a later point leaves: its own part over what the cell held. -/
theorem out_later (c : Dev nD) (i : grid0.Coords) (arg2 : Memref sig .tc .vmem S1x80x2048 .f32) (harg2 : arg2.IsWhole)
    (arg3 : Memref sig .tc .vmem S160x80 .f32) (harg3 : arg3.IsWhole) (arg4 : Memref sig .tc .vmem S160x1 .f32) (harg4 : arg4.IsWhole)
    (arg5 : Memref sig .tc .vmem S80x160 .f32) (harg5 : arg5.IsWhole) (arg6 : Memref sig .tc .vmem S80x1 .f32) (harg6 : arg6.IsWhole)
    (arg7 : Memref sig .tc .smem S1x1 .f32) (harg7 : arg7.IsWhole) (hc : ¬ cond0_0 i)
    (x0 : Vec Ideal S1x80x2048 .f32) (x1 : Vec Ideal S160x80 .f32) (x2 : Vec Ideal S160x1 .f32) (x3 : Vec Ideal S80x160 .f32)
    (x4 : Vec Ideal S80x1 .f32) (xt0 : IVec S8 32) (xo : Vec Ideal S1x1 .f32) (j : S1x1.Idx) :
    out0_B_5 (F := Ideal) c i arg2 harg2 arg3 harg3 arg4 harg4 arg5 harg5 arg6 harg6 arg7 harg7 hc x0 x1 x2 x3 x4 xt0 xo j
      = k0_pay1 (F := Ideal) (k0_pay3 x0 x1 x2 x3 x4) (k0_pay4 x0) (k0_pay5 (xt0 (ix1 (point i)))) (k0_pay6 x0 x1 x2 x3 x4 (xt0 (ix1 (point i)))) (xo j) := by
  frame_out
  rw [word_at]
  exact congrArg (k0_pay1 (F := Ideal) _ _ _ _) (congrArg xo (idx_one _ _))

theorem whole (hO : Ok (F := Ideal) m) : ((cfgM m hO).win 5).WholeAt t0_7 := by
  refine ⟨(flush0_5 (adm m hO) t0_7).2 rfl, fun t hf => ?_, fun a => ⟨?_, ?_⟩⟩
  · have := (flush0_5 (adm m hO) t).1 hf
    have h8 : t.val < 8 := lt_of_lt_of_eq t.isLt (show (cfgM m hO).N = 8 from N_0)
    apply Fin.ext
    show t.val = 7
    omega
  · revert a
    exact (by decide : ∀ a : Fin 2, cc0_transform_5 (grid0.coords t0_7) a = 0)
  · rfl

/-- The result buffer after the program: the one element of the accumulated cell. -/
theorem tail_eq (hO : Ok (F := Ideal) m) (c : Dev nD) :
    Pipeline.afterTail pcfgs (fun _ => adm m hO) (dats m hO) 0 (V0 m) [hostOps1] c main_v1
      = fun _ => ((dats m hO 0 c).arrAt 5 (cfgM m hO).N : FVec Ideal S1x1 .f32) (ix2 0 0) := by
  unfold Pipeline.afterTail
  simp only [List.flatten_cons, List.flatten_nil, List.append_nil, hostOps1]
  after_results
  funext i
  exact (congrFun (Pipeline.withArrays_arr (Pipeline.pin pcfgs (fun _ => adm m hO) 0).spec winFacts0.arr_inj c (V0 m c)
    (fun w => (dats m hO 0 c).arrAt w (Pipeline.pin pcfgs (fun _ => adm m hO) 0).N) 5) _).trans
      (congrArg ((dats m hO 0 c).arrAt 5 (cfgM m hO).N) (idx_one _ _))

/-- The grid point `t` is the sequence `t`. -/
theorem coord_eq (t : Fin grid0.N) : (grid0.coords t 0).val = t.val := by
  revert t
  decide

/-- The first array holds the sequences, each transposed. -/
theorem entry_x (c : Dev nD) (p : Fin 8) (j : Fin 80) (s : Fin 2048) :
    (V m c main_v0 : FVec Ideal S8x80x2048 .f32) (ix3 p j s) = m ((c : Thread nD τ).loc main_arg0) (ix3 p s j) := by
  have e : V m c main_v0 = (transpose S8x80x2048 [0, 2, 1] (m ((c : Thread nD τ).loc main_arg0)) transposes_S8x2048x80_S8x80x2048_0_2_1 : FVec Ideal S8x80x2048 .f32) := by
    unfold V V0
    simp only [List.flatten_cons, List.flatten_nil, List.append_nil, hostOps0, hostOps0_1, List.cons_append, List.nil_append]
    after_results
    try rfl
  rw [e]
  pointwise

/-- The second array holds the first layer's weights, transposed. -/
theorem entry_w (c : Dev nD) (k : Fin 160) (j : Fin 80) :
    (V m c main_call0_v0 : FVec Ideal S160x80 .f32) (ix2 k j) = m ((c : Thread nD τ).loc main_arg3) (ix2 j k) := by
  have e : V m c main_call0_v0 = (transpose S160x80 [1, 0] (m ((c : Thread nD τ).loc main_arg3)) transposes_S80x160_S160x80_1_0 : FVec Ideal S160x80 .f32) := by
    unfold V V0
    simp only [List.flatten_cons, List.flatten_nil, List.append_nil, hostOps0, hostOps0_1, List.cons_append, List.nil_append]
    after_results
    rfl
  rw [e]
  pointwise

/-- The third array holds the first layer's biases, as a column. -/
theorem entry_b (c : Dev nD) (k : Fin 160) :
    (V m c main_call0_v1 : FVec Ideal S160x1 .f32) (ix2 k 0) = m ((c : Thread nD τ).loc main_arg4) (ix1 k) := by
  have e : V m c main_call0_v1 = (shapeCast S160x1 (m ((c : Thread nD τ).loc main_arg4)) shapeCasts_S160_S160x1 : FVec Ideal S160x1 .f32) := by
    unfold V V0
    simp only [List.flatten_cons, List.flatten_nil, List.append_nil, hostOps0, hostOps0_1, List.cons_append, List.nil_append]
    after_results
    rfl
  rw [e]
  pointwise

/-- The fourth array holds the second layer's weights, transposed. -/
theorem entry_w' (c : Dev nD) (i : Fin 80) (k : Fin 160) :
    (V m c main_call0_v2 : FVec Ideal S80x160 .f32) (ix2 i k) = m ((c : Thread nD τ).loc main_arg5) (ix2 k i) := by
  have e : V m c main_call0_v2 = (transpose S80x160 [1, 0] (m ((c : Thread nD τ).loc main_arg5)) transposes_S160x80_S80x160_1_0 : FVec Ideal S80x160 .f32) := by
    unfold V V0
    simp only [List.flatten_cons, List.flatten_nil, List.append_nil, hostOps0, hostOps0_1, List.cons_append, List.nil_append]
    after_results
    rfl
  rw [e]
  pointwise

/-- The fifth array holds the second layer's biases, as a column. -/
theorem entry_b' (c : Dev nD) (i : Fin 80) :
    (V m c main_call0_v3 : FVec Ideal S80x1 .f32) (ix2 i 0) = m ((c : Thread nD τ).loc main_arg6) (ix1 i) := by
  have e : V m c main_call0_v3 = (shapeCast S80x1 (m ((c : Thread nD τ).loc main_arg6)) shapeCasts_S80_S80x1 : FVec Ideal S80x1 .f32) := by
    unfold V V0
    simp only [List.flatten_cons, List.flatten_nil, List.append_nil, hostOps0, hostOps0_1, List.cons_append, List.nil_append]
    after_results
    rfl
  rw [e]
  pointwise

/-- The first window's block number at point `t`: sequence `t`. -/
theorem number_x (t : Fin grid0.N) : cc0_transform_0 (grid0.coords t) = ![t.val, 0, 0] := by
  revert t
  decide

/-- The first window's block at point `t`: sequence `t`, transposed. -/
theorem block_x (hO : Ok (F := Ideal) m) (c : Dev nD) (t : Fin (cfgM m hO).N) (h : t.val < 8) (j : Fin 80) (s : Fin 2048) :
    (iblk m hO c 0 t : Vec Ideal S1x80x2048 .f32) (ix3 0 j s) = m ((c : Thread nD τ).loc main_arg0) (ix3 ⟨t.val, h⟩ s j) := by
  refine Eq.trans ?_ (entry_x m c ⟨t.val, h⟩ j s)
  blk_simp [iblk]
  refine congrArg (V m c main_v0) (funext fun a => Fin.ext ?_)
  show cc0_transform_0 (grid0.coords t) a * S1x80x2048.size a + 1 * (ix3 (0 : Fin 1) j s a).val = (ix3 (⟨t.val, h⟩ : Fin 8) j s a).val
  rw [number_x t]
  revert a
  refine Fin.forall_fin_succ.2 ⟨?_, Fin.forall_fin_succ.2 ⟨?_, Fin.forall_fin_succ.2 ⟨?_, fun a => a.elim0⟩⟩⟩
  · show t.val * 1 + 1 * 0 = t.val
    omega
  · show 0 * 80 + 1 * j.val = j.val
    omega
  · show 0 * 2048 + 1 * s.val = s.val
    omega

/-- A block that is its whole array starts at zero. -/
theorem in_place (z n : ℕ) : 0 * z + 1 * n = n := by
  omega

/-- The second window's block: the first layer's weights, transposed. -/
theorem block_w (hO : Ok (F := Ideal) m) (c : Dev nD) (t : Fin (cfgM m hO).N) (k : Fin 160) (j : Fin 80) :
    (iblk m hO c 1 t : Vec Ideal S160x80 .f32) (ix2 k j) = m ((c : Thread nD τ).loc main_arg3) (ix2 j k) := by
  refine Eq.trans ?_ (entry_w m c k j)
  blk_simp [iblk]
  refine congrArg (V m c main_call0_v0) (funext fun a => Fin.ext ?_)
  show cc0_transform_1 (grid0.coords t) a * S160x80.size a + 1 * (ix2 k j : S160x80.Idx) a = ((ix2 k j : S160x80.Idx) a).val
  revert a
  exact Fin.forall_fin_two.2 ⟨in_place _ _, in_place _ _⟩

/-- The third window's block: the first layer's biases. -/
theorem block_b (hO : Ok (F := Ideal) m) (c : Dev nD) (t : Fin (cfgM m hO).N) (k : Fin 160) :
    (iblk m hO c 2 t : Vec Ideal S160x1 .f32) (ix2 k 0) = m ((c : Thread nD τ).loc main_arg4) (ix1 k) := by
  refine Eq.trans ?_ (entry_b m c k)
  blk_simp [iblk]
  refine congrArg (V m c main_call0_v1) (funext fun a => Fin.ext ?_)
  show cc0_transform_2 (grid0.coords t) a * S160x1.size a + 1 * (ix2 k 0 : S160x1.Idx) a = ((ix2 k 0 : S160x1.Idx) a).val
  revert a
  exact Fin.forall_fin_two.2 ⟨in_place _ _, in_place _ _⟩

/-- The fourth window's block: the second layer's weights, transposed. -/
theorem block_w' (hO : Ok (F := Ideal) m) (c : Dev nD) (t : Fin (cfgM m hO).N) (i : Fin 80) (k : Fin 160) :
    (iblk m hO c 3 t : Vec Ideal S80x160 .f32) (ix2 i k) = m ((c : Thread nD τ).loc main_arg5) (ix2 k i) := by
  refine Eq.trans ?_ (entry_w' m c i k)
  blk_simp [iblk]
  refine congrArg (V m c main_call0_v2) (funext fun a => Fin.ext ?_)
  show cc0_transform_3 (grid0.coords t) a * S80x160.size a + 1 * (ix2 i k : S80x160.Idx) a = ((ix2 i k : S80x160.Idx) a).val
  revert a
  exact Fin.forall_fin_two.2 ⟨in_place _ _, in_place _ _⟩

/-- The fifth window's block: the second layer's biases. -/
theorem block_b' (hO : Ok (F := Ideal) m) (c : Dev nD) (t : Fin (cfgM m hO).N) (i : Fin 80) :
    (iblk m hO c 4 t : Vec Ideal S80x1 .f32) (ix2 i 0) = m ((c : Thread nD τ).loc main_arg6) (ix1 i) := by
  refine Eq.trans ?_ (entry_b' m c i)
  blk_simp [iblk]
  refine congrArg (V m c main_call0_v3) (funext fun a => Fin.ext ?_)
  show cc0_transform_4 (grid0.coords t) a * S80x1.size a + 1 * (ix2 i 0 : S80x1.Idx) a = ((ix2 i 0 : S80x1.Idx) a).val
  revert a
  exact Fin.forall_fin_two.2 ⟨in_place _ _, in_place _ _⟩

end Cert.KernelIdeal.Value
-- ==== Proof.KernelRun.lean ====
/- What the kernel's program leaves: the loss of the arguments. -/
module

public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Common

variable (m : (ℓ : Loc nD τ sig) → Buf (Elt Ideal) ℓ)

/-- The sequences, by sequence, time and feature. -/
def argX (c : Dev nD) (p : Fin 8) (t : Fin 2048) (i : Fin 80) : EReal := m ((c : Thread nD τ).loc main_arg0) (ix3 p t i)
/-- The sequences' lengths. -/
def argL (c : Dev nD) (p : Fin 8) : BitVec 32 := m ((c : Thread nD τ).loc main_arg1) (ix1 p)
/-- The first layer's weights. -/
def argW (c : Dev nD) (j : Fin 80) (k : Fin 160) : EReal := m ((c : Thread nD τ).loc main_arg3) (ix2 j k)
/-- The first layer's biases. -/
def argB (c : Dev nD) (k : Fin 160) : EReal := m ((c : Thread nD τ).loc main_arg4) (ix1 k)
/-- The second layer's weights. -/
def argW' (c : Dev nD) (k : Fin 160) (i : Fin 80) : EReal := m ((c : Thread nD τ).loc main_arg5) (ix2 k i)
/-- The second layer's biases. -/
def argB' (c : Dev nD) (i : Fin 80) : EReal := m ((c : Thread nD τ).loc main_arg6) (ix1 i)

/-- The loss of the arguments. -/
def answer (c : Dev nD) : EReal := ((loss (argX m c) (argL m c) (argW m c) (argB m c) (argW' m c) (argB' m c) : ℝ) : EReal)

/-- The part that point `t` adds: sequence `t`'s total. -/
def part (c : Dev nD) (t : ℕ) (h : t < 8) : EReal :=
  ((total ((argL m c ⟨t, h⟩).toNat - 10) (fitted (argX m c ⟨t, h⟩) (argW m c) (argB m c) (argW' m c) (argB' m c))
    (window (argX m c ⟨t, h⟩)) : ℝ) : EReal)

/-- The table entry of point `t` is the length of sequence `t`. -/
theorem table_at (hO : Ok (F := Ideal) m) (c : Dev nD) (t : Fin (cfgM m hO).N) (h : t.val < 8) :
    (tbl m 0 : IVec S8 32) (ix1 (point (grid0.coords t))) = argL m c ⟨t.val, h⟩ := by
  have e : point (grid0.coords t) = ⟨t.val, h⟩ := Fin.ext (coord_eq t)
  rw [e, ← V_pre m c 0]
  exact congrFun (V_main_arg1 m c) _

/-- What a point stores over the value `a`, its blocks being sequence `p` and the two layers: `a` and the sequence's total. -/
theorem part_of_blocks (c : Dev nD) (hD : Drawn (argX m c) (argL m c) (argW' m c) (argB' m c)) (p : Fin 8) (a : Ideal .f32)
    (x : Vec Ideal S1x80x2048 .f32) (w : Vec Ideal S160x80 .f32) (b : Vec Ideal S160x1 .f32) (w' : Vec Ideal S80x160 .f32)
    (b' : Vec Ideal S80x1 .f32) (hx : ∀ j s, x (ix3 0 j s) = argX m c p s j) (hw : ∀ k j, w (ix2 k j) = argW m c j k)
    (hb : ∀ k, b (ix2 k 0) = argB m c k) (hw' : ∀ i k, w' (ix2 i k) = argW' m c k i) (hb' : ∀ i, b' (ix2 i 0) = argB' m c i) :
    k0_pay1 (F := Ideal) (k0_pay3 x w b w' b') (k0_pay4 x) (k0_pay5 (argL m c p)) (k0_pay6 x w b w' b' (argL m c p)) a
      = a + part m c p.val p.isLt := by
  have h1 := hD.length_ge p
  refine point_at _ _ _ _ _ _ (by omega) (hD.length_le _) a _ _ (fun i s _ => ?_) fun i s _ => ?_
  · rw [estimate_at]
    refine Eq.trans ?_ (estimate_real _ _ _ _ _ i hD.finite_w hD.finite_b).symm
    unfold estimate
    simp only [hx, hw, hb, hw', hb']
    refine congrArg₂ (· + ·) (Finset.sum_congr rfl fun k _ => ?_) rfl
    rw [mul_comm]
    exact congrArg₂ (· * ·) (congrArg Ideal.tanh (congrArg₂ (· + ·) (Finset.sum_congr rfl fun j _ => mul_comm _ _) rfl)) rfl
  · rw [window_at x i ⟨s.val, by omega⟩ s.isLt]
    refine Eq.trans ?_ (coe_sum _ _)
    refine Finset.sum_congr rfl fun j _ => ?_
    rw [hx]
    obtain ⟨r, hr⟩ := hD.finite_x p ⟨j.val + 1 + s.val, by omega⟩ i
    refine Eq.trans ?_ (congrArg (fun z : EReal => ((z.toReal : ℝ) : EReal)) hr).symm
    exact hr

/-- What point `t` stores over the value `a`: `a` and sequence `t`'s total. -/
theorem part_at (hO : Ok (F := Ideal) m) (c : Dev nD) (hD : Drawn (argX m c) (argL m c) (argW' m c) (argB' m c))
    (t : Fin (cfgM m hO).N) (h : t.val < 8) (a : Ideal .f32) (l : BitVec 32) (hl : l = argL m c ⟨t.val, h⟩) :
    k0_pay1 (F := Ideal) (k0_pay3 (iblk m hO c 0 t) (iblk m hO c 1 t) (iblk m hO c 2 t) (iblk m hO c 3 t) (iblk m hO c 4 t))
        (k0_pay4 (iblk m hO c 0 t)) (k0_pay5 l)
        (k0_pay6 (iblk m hO c 0 t) (iblk m hO c 1 t) (iblk m hO c 2 t) (iblk m hO c 3 t) (iblk m hO c 4 t) l) a
      = a + part m c t.val h := by
  subst hl
  exact part_of_blocks m c hD ⟨t.val, h⟩ a _ _ _ _ _ (block_x m hO c t h) (block_w m hO c t) (block_b m hO c t)
    (block_w' m hO c t) (block_b' m hO c t)

/-- The cell after the last point: the loss. -/
theorem final_eq (hO : Ok (F := Ideal) m) (c : Dev nD) (hD : Drawn (argX m c) (argL m c) (argW' m c) (argB' m c)) (i : S1x1.Idx) :
    ((dats m hO 0 c).arrAt 5 (cfgM m hO).N : FVec Ideal S1x1 .f32) i
      = answer m c := by
  have hN : (cfgM m hO).N = 8 := N_0
  have h8 (t : Fin (cfgM m hO).N) : t.val < 8 := lt_of_lt_of_eq t.isLt hN
  have key : ∀ j : S1x1.Idx, outsAt0 m hO c t0_7.val t0_7.isLt j = answer m c := by
    intro j
    rw [Pipeline.eq_sum_fin_of_reset_step_apply_last (fun n h => outsAt0 m hO c n h) 8 (fun _ => 0) (fun t _ => part m c t.val (h8 t))
      (fun t h j => ?_) (fun t h j => ?_) (le_of_eq hN) t0_7 rfl j]
    · rw [zero_add]
      exact (Fintype.sum_equiv (finCongr hN) _ (fun p : Fin 8 => part m c p.val p.isLt) fun _ => rfl).trans (coe_sum _ _)
    · rw [outsAt0_A m hO c t h]
      exact (out_first ..).trans (part_at m hO c hD t (h8 t) _ _ (table_at m hO c t (h8 t)))
    · rw [outsAt0_B m hO c t h]
      exact (out_later ..).trans (part_at m hO c hD t (h8 t) _ _ (table_at m hO c t (h8 t)))
  refine congrFun ((dats m hO 0 c).arrAt_eq_of_after_last 5 t0_7 (whole m hO) (fun _ => answer m c) fun j => ?_) i
  blk_simp
  rw [after0_5]
  exact key _

/-- From any memory whose arguments are as the precondition says, the program ends with the loss and its arguments unchanged. -/
theorem run_answer (g : Dev nD → PrngReg) (hD : ∀ c, Drawn (argX m c) (argL m c) (argW' m c) (argB' m c)) :
    θ_run (defs (F := Ideal)) (onTc (τ := τ) (main (F := Ideal))) ⟨m, fun _ => 0, g⟩ (fun r => ∀ c : Dev nD,
      r.2.mem ((c.tc : Thread nD τ).loc main_v1) = (fun _ => answer m c : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have value : θ_run (defs (F := Ideal)) (onTc (τ := τ) (main (F := Ideal))) ⟨m, fun _ => 0, g⟩ (fun r => ∀ c : Dev nD,
      r.2.mem ((c.tc : Thread nD τ).loc main_v1) = (fun _ => answer m c : FVec Ideal S_ .f32)) := by
    refine (θ_run defs _ _).mono (fun r h c => ?_) (run_main m g (ok m))
    refine ((h c).2 main_v1 (by exact (by decide : main_v1 ∈ Pipeline.restRefs sig spec0))).trans ((tail_eq m (ok m) c).trans ?_)
    funext _
    exact final_eq m (ok m) c (hD c) _
  exact (θ_run defs _ _).mono (fun r h c => ⟨h.1 c, h.2 c⟩) (θ_run_and value (unchanged m g (ok m)))

end Cert.KernelIdeal.Value
-- ==== Proof.Range.lean ====
/- What the precondition says of the arguments. -/
module

public import proofs.«01_k».proof.Defs
public import proofs.«01_k».proof.Proof.Gen.Pre_in_range
public import proofs.«01_k».proof.Proof.KernelRun
public import Idealize.ShloMosaic.Lib.Pointwise
public import Idealize.ShloMosaic.Lib.ReduceAll

@[expose] public section

noncomputable section

open Idealize.ShloMosaic Idealize.ShloMosaic.TcCoe Idealize.SL.Sem

namespace Cert.KernelIdeal.Value

open Cert.KernelIdeal Cert.KernelIdeal.Gen Cert.Common

/-- The predicate's result has one index. -/
theorem one_index (i j : Cert.Pre_in_range.S_.Idx) : i = j := funext fun a => a.elim0

/-- A number whose magnitude is below infinity is real. -/
theorem real_of_lt (x : EReal) (h : FloatOps.cmpf (F := Ideal) (φ := .f32) .olt (FloatOps.hostAbsf (F := Ideal) (φ := .f32) x) (FloatOps.ofBits (F := Ideal) .f32 0x7F800000#32) = 1#1) :
    ∃ r : ℝ, x = r := by
  have top : FloatOps.ofBits (F := Ideal) .f32 0x7F800000#32 = (⊤ : EReal) := by
    simp [Ideal.ofBits, Ideal.ieee]
  rw [top] at h
  have lt : max x (-x) < (⊤ : EReal) := by
    by_contra hn
    rw [show FloatOps.cmpf (F := Ideal) (φ := .f32) .olt (FloatOps.hostAbsf (F := Ideal) (φ := .f32) x) (⊤ : EReal)
      = BitVec.ofBool (decide (max x (-x) < (⊤ : EReal))) from rfl, decide_eq_false hn] at h
    exact absurd h (by decide)
  refine ⟨x.toReal, (EReal.coe_toReal ?_ ?_).symm⟩
  · rintro rfl
    simp at lt
  · rintro rfl
    simp at lt

/-- The precondition gives finite sequences, output weights and output biases, and lengths in the drawn range. -/
theorem drawn (m : (ℓ : Loc nD τ sig) → Buf (Elt Ideal) ℓ) (c : Dev nD)
   (h : Cert.Pre_KernelIdeal_in_range m) : Drawn (argX m c) (argL m c) (argW' m c) (argB' m c) := by
  have hc := congrFun (h c) (Shape.Idx.first (by decide))
  haveI : Subsingleton Cert.Pre_in_range.S_.Idx := ⟨one_index⟩
  dsimp only [Cert.Pre_in_range.fn, Cert.Pre_in_range.fn_part1, andi] at hc
  simp only [IntOp.andi_eq_one] at hc
  obtain ⟨⟨⟨hl, hx⟩, hw⟩, hb⟩ := hc
  have len (p : Fin 8) := IntOp.andi_eq_one.1 (Host.reduce_andi_all _ _ _ _ _ hl (ix1 p))
  have range (p : Fin 8) := range_of_cmpi (argL m c p) (len p).1 (len p).2
  exact ⟨fun p t i => real_of_lt _ (Host.reduce_andi_all _ _ _ _ _ hx (ix3 p t i)),
    fun k i => real_of_lt _ (Host.reduce_andi_all _ _ _ _ _ hw (ix2 k i)),
    fun i => real_of_lt _ (Host.reduce_andi_all _ _ _ _ _ hb (ix1 i)), fun p => (range p).1, fun p => (range p).2⟩

end Cert.KernelIdeal.Value
-- ==== Proof.Reference.lean ====
/- The reference's terms, read at an index. -/
module

public import proofs.«01_k».proof.Proof.Gen.ReferenceIdeal.Run
public import proofs.«01_k».proof.Proof.Model
public import proofs.«01_k».proof.Proof.Words
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Common

variable (V : Valuation τ sig (Elt Ideal))

/-- The gather takes, at sequence `p`, time `t`, step `j` and feature `i`, the frame whose number the table gives. -/
theorem gather_at (x : FVec Ideal S8x2048x80 .f32) (idx : IVec S2038x10x1 32) (p : Fin 8) (t : Fin 2038) (j : Fin 10) (i : Fin 80)
    (s : Fin 2048) (h : idx (ix3 t j 0) = BitVec.ofNat 32 s.val) :
    Host.gather gather_S8x2048x80_S2038x10x1_S8x2038x10x80_03_1_n_n_1_2_8180 x idx (ix4 p t j i) = x (ix3 p s i) := by
  unfold Host.gather
  refine congrArg x (funext fun a => Fin.ext ?_)
  revert a
  refine Fin.forall_fin_succ.2 ⟨?_, Fin.forall_fin_succ.2 ⟨?_, Fin.forall_fin_succ.2 ⟨?_, fun a => a.elim0⟩⟩⟩
  · show 0 + 0 + p.val = p.val
    omega
  · have e : gather_S8x2048x80_S2038x10x1_S8x2038x10x80_03_1_n_n_1_2_8180.siIdx (ix4 p t j i) ⟨0, by decide⟩ = ix3 t j 0 := by
      funext b
      revert b
      exact Fin.forall_fin_succ.2 ⟨rfl, Fin.forall_fin_succ.2 ⟨rfl, Fin.forall_fin_succ.2 ⟨rfl, fun a => a.elim0⟩⟩⟩
    show min (idx (gather_S8x2048x80_S2038x10x1_S8x2038x10x80_03_1_n_n_1_2_8180.siIdx (ix4 p t j i) ⟨0, by decide⟩)).toInt.toNat 2047 + 0 + 0 = s.val
    rw [e, h, BitVec.toInt_ofNat']
    have := s.isLt
    simp only [Int.bmod_def]
    omega
  · show 0 + 0 + i.val = i.val
    omega

/-- The mask at sequence `p` and time `t`: whether `t` is below the sequence's length less ten. -/
theorem mask_at (p : Fin 8) (t : Fin 2038) :
    (res_main_v7 V : IVec S8x2038 1) (ix2 p t)
      = IntOp.cmpi .slt (BitVec.ofNat 32 t.val) (IntOp.subi ((V (Proc.devRef .tc main_arg1) : IVec S8 32) (ix1 p)) 10#32) := by
  unfold res_main_v7 res_main_v0
  clean_types
  pointwise

/-- The table of frame numbers: at time `t` and step `j`, frame `j + 1 + t`. -/
theorem step_at (t : Fin 2038) (j : Fin 10) :
    (res_main_v18 V : IVec S2038x10 32) (ix2 t j) = BitVec.ofNat 32 (j.val + 1 + t.val) := by
  unfold res_main_v18 res_main_v0
  clean_types
  pointwise
  exact frame_number t.val j.val

/-- The targets. -/
theorem target_at (p : Fin 8) (t : Fin 2038) (j : Fin 10) (i : Fin 80) (h : (res_main_v7 V : IVec S8x2038 1) (ix2 p t) = 1#1) :
    (res_main_v27 V : FVec Ideal S8x2038x10x80 .f32) (ix4 p t j i)
      = (V (Proc.devRef .tc main_arg0) : FVec Ideal S8x2048x80 .f32) (ix3 p ⟨j.val + 1 + t.val, by omega⟩ i) := by
  unfold res_main_v27
  clean_types
  pointwise
  rw [h]
  refine gather_at _ _ p t j i ⟨j.val + 1 + t.val, by omega⟩ ?_
  pointwise
  rw [step_at, not_negative _ (by omega)]
  rfl

/-- The estimates. -/
theorem estimate_at (p : Fin 8) (t : Fin 2038) (j : Fin 10) (i : Fin 80) (h : (res_main_v7 V : IVec S8x2038 1) (ix2 p t) = 1#1) :
    (res_main_v40 V : FVec Ideal S8x2038x10x80 .f32) (ix4 p t j i)
      = estimate (fun j => (V (Proc.devRef .tc main_arg0) : FVec Ideal S8x2048x80 .f32) (ix3 p ⟨t.val, by omega⟩ j))
        (fun j k => (V (Proc.devRef .tc main_arg3) : FVec Ideal S80x160 .f32) (ix2 j k))
        (fun k => (V (Proc.devRef .tc main_arg4) : FVec Ideal S160 .f32) (ix1 k))
        (fun k i => (V (Proc.devRef .tc main_arg5) : FVec Ideal S160x80 .f32) (ix2 k i))
        (fun i => (V (Proc.devRef .tc main_arg6) : FVec Ideal S80 .f32) (ix1 i)) i := by
  unfold res_main_v40 res_main_v10 estimate
  clean_types
  pointwise
  rw [h]
  rfl

/-- The row of the flattened arrays that holds sequence `p` at time `t`. -/
def row (p : Fin 8) (t : Fin 2038) : Fin 16304 := ⟨p.val * 2038 + t.val, by omega⟩

/-- The difference of a step: the estimates' mean over the ten frames less the targets' mean, flattened. -/
def diff (e y : FVec Ideal S8x2038x10x80 .f32) : FVec Ideal S16304x80 .f32 :=
  subf (shapeCast _ (Host.divf (Host.reduceAdd e (constant S_ .f32 0x00000000#32) reducesTo_S8x2038x10x80_S8x2038x80_d2 h_S_) (broadcastInDim S8x2038x80 ![] bcast_S_S8x2038x80 (constant S_ .f32 0x41200000#32))) shapeCasts_S8x2038x80_S16304x80)
    (shapeCast _ (Host.divf (Host.reduceAdd y (constant S_ .f32 0x00000000#32) reducesTo_S8x2038x10x80_S8x2038x80_d2 h_S_) (broadcastInDim S8x2038x80 ![] bcast_S_S8x2038x80 (constant S_ .f32 0x41200000#32))) shapeCasts_S8x2038x80_S16304x80)

/-- The masked sum of a difference's squares. -/
def squares (v : IVec S16304x1 1) (d : FVec Ideal S16304x80 .f32) : FVec Ideal S_ .f32 :=
  Host.reduceAdd (select (broadcastInDim S16304x80 ![0, 1] bcast_S16304x1_S16304x80_0_1 v) (mulf d d) (broadcastInDim S16304x80 ![] bcast_S_S16304x80 (id (constant S_ .f32 0x00000000#32)))) (constant S_ .f32 0x00000000#32) reducesTo_S16304x80_S_d0_1 h_S_

/-- Ten, as the program's constant. -/
theorem ten : Ideal.ofBits .f32 0x41200000#32 = ((10 : ℝ) : EReal) := by
  simp [Ideal.ofBits, Ideal.ieee, -EReal.coe_mul]; norm_num

/-- A difference read at an index. -/
theorem diff_at (e y : FVec Ideal S8x2038x10x80 .f32) (p : Fin 8) (t : Fin 2038) (i : Fin 80) (a : ℝ) (b : Fin 10 → ℝ)
    (he : ∀ j, e (ix4 p t j i) = (a : EReal)) (hy : ∀ j, y (ix4 p t j i) = (b j : EReal)) :
    diff e y (ix2 (row p t) i) = ((a - (∑ j, b j) / 10 : ℝ) : EReal) := by
  have h1 : (p.val * 2038 + t.val) / 2038 = p.val := by omega
  have h2 : (p.val * 2038 + t.val) % 2038 = t.val := by omega
  pointwise [diff, row]
  simp only [he, hy, ten, coe_sum, Ideal.div_coe (show (10 : ℝ) ≠ 0 by norm_num)]
  rw [← EReal.coe_mul, ← EReal.coe_mul, ← EReal.coe_sub]
  congr 1
  simp only [Finset.sum_const, Finset.card_univ, Fintype.card_fin, nsmul_eq_mul]
  push_cast
  ring

/-- A masked sum of squares, by sequence, time and feature. -/
theorem squares_at (v : IVec S16304x1 1) (d : FVec Ideal S16304x80 .f32) (n : Fin 8 → ℕ) (f : Fin 8 → Fin 2038 → Fin 80 → ℝ)
    (hv : ∀ p t, v (ix2 (row p t) 0) = BitVec.ofBool (decide (t.val < n p)))
    (hd : ∀ p t i, t.val < n p → d (ix2 (row p t) i) = (f p t i : EReal)) :
    squares v d ix0 = ((∑ p : Fin 8, ∑ t : Fin 2038, ∑ i : Fin 80, if t.val < n p then f p t i * f p t i else 0 : ℝ) : EReal) := by
  pointwise [squares]
  rw [Fin.sum_univ_tiles 8 2038 rfl, ← coe_sum]
  refine Finset.sum_congr rfl fun p _ => ?_
  rw [← coe_sum]
  refine Finset.sum_congr rfl fun t _ => ?_
  rw [← coe_sum]
  refine Finset.sum_congr rfl fun i _ => ?_
  have e := hv p t
  unfold row at e
  rw [e]
  by_cases h : t.val < n p
  · have e' := hd p t i h
    unfold row at e'
    rw [if_pos h, decide_eq_true h, e', EReal.coe_mul]
    rfl
  · rw [if_neg h, decide_eq_false h]
    exact Ideal.ofBits_zero_f32

/-- The targets after `k` steps: each frame less `k` estimates. -/
def targets (V : Valuation τ sig (Elt Ideal)) : ℕ → FVec Ideal S8x2038x10x80 .f32
  | 0 => res_main_v27 V
  | k + 1 => subf (targets V k) (res_main_v40 V)

/-- The result: the mean over the ten steps of their masked sums. -/
def result (v : IVec S16304x1 1) (d : Fin 10 → FVec Ideal S16304x80 .f32) : FVec Ideal S_ .f32 :=
  Host.divf (Host.reduceAdd (concatenate S10 0 [⟨S1, broadcastInDim S1 ![] bcast_S_S1 (squares v (d 0))⟩, ⟨S1, broadcastInDim S1 ![] bcast_S_S1 (squares v (d 1))⟩,
    ⟨S1, broadcastInDim S1 ![] bcast_S_S1 (squares v (d 2))⟩, ⟨S1, broadcastInDim S1 ![] bcast_S_S1 (squares v (d 3))⟩, ⟨S1, broadcastInDim S1 ![] bcast_S_S1 (squares v (d 4))⟩,
    ⟨S1, broadcastInDim S1 ![] bcast_S_S1 (squares v (d 5))⟩, ⟨S1, broadcastInDim S1 ![] bcast_S_S1 (squares v (d 6))⟩, ⟨S1, broadcastInDim S1 ![] bcast_S_S1 (squares v (d 7))⟩,
    ⟨S1, broadcastInDim S1 ![] bcast_S_S1 (squares v (d 8))⟩, ⟨S1, broadcastInDim S1 ![] bcast_S_S1 (squares v (d 9))⟩] concatenates_S1_S1_S1_S1_S1_S1_S1_S1_S1_S1_S10_d0)
    (constant S_ .f32 0x00000000#32) reducesTo_S10_S_d0 h_S_) (constant S_ .f32 0x41200000#32)

/-- The reference's term is that result of the ten steps' differences: the estimates are the same at every step. -/
theorem term_eq : Host.divf (res_main_v290 V) (constant S_ .f32 0x41200000#32)
    = result (res_main_v28 V) fun k => diff (res_main_v40 V) (targets V k.val) := by
  rfl

/-- The result read: the ten masked sums, added and divided by ten. -/
theorem result_at (v : IVec S16304x1 1) (d : Fin 10 → FVec Ideal S16304x80 .f32) (j : S_.Idx) :
    result v d j = Ideal.div (∑ k : Fin 10, squares v (d k) ix0) ((10 : ℝ) : EReal) := by
  rw [← ten]
  obtain rfl : j = ix0 := funext fun a => a.elim0
  pointwise [result]
  refine congrArg (Ideal.div · _) (Finset.sum_congr rfl fun k _ => ?_)
  fin_cases k <;> rfl

/-- The sequences, by sequence, time and feature. -/
def argX (p : Fin 8) (t : Fin 2048) (i : Fin 80) : EReal := (V (Proc.devRef .tc main_arg0) : FVec Ideal S8x2048x80 .f32) (ix3 p t i)
/-- The sequences' lengths. -/
def argL (p : Fin 8) : BitVec 32 := (V (Proc.devRef .tc main_arg1) : IVec S8 32) (ix1 p)
/-- The first layer's weights. -/
def argW (j : Fin 80) (k : Fin 160) : EReal := (V (Proc.devRef .tc main_arg3) : FVec Ideal S80x160 .f32) (ix2 j k)
/-- The first layer's biases. -/
def argB (k : Fin 160) : EReal := (V (Proc.devRef .tc main_arg4) : FVec Ideal S160 .f32) (ix1 k)
/-- The second layer's weights. -/
def argW' (k : Fin 160) (i : Fin 80) : EReal := (V (Proc.devRef .tc main_arg5) : FVec Ideal S160x80 .f32) (ix2 k i)
/-- The second layer's biases. -/
def argB' (i : Fin 80) : EReal := (V (Proc.devRef .tc main_arg6) : FVec Ideal S80 .f32) (ix1 i)

variable (hD : Drawn (argX V) (argL V) (argW' V) (argB' V))
include hD

/-- The mask at sequence `p` and time `t`: whether `t` is below the length less ten, as numbers. -/
theorem mask_eq (p : Fin 8) (t : Fin 2038) :
    (res_main_v7 V : IVec S8x2038 1) (ix2 p t) = BitVec.ofBool (decide (t.val < (argL V p).toNat - 10)) := by
  have h := hD.length_ge p
  rw [mask_at]
  exact cmpi_time (argL V p) (by omega) (hD.length_le p) t.val (by omega)

/-- The flattened mask at the row of sequence `p` and time `t`. -/
theorem flat_mask_eq (p : Fin 8) (t : Fin 2038) :
    (res_main_v28 V : IVec S16304x1 1) (ix2 (row p t) 0) = BitVec.ofBool (decide (t.val < (argL V p).toNat - 10)) := by
  have h1 : (p.val * 2038 + t.val) / 2038 = p.val := by omega
  have h2 : (p.val * 2038 + t.val) % 2038 = t.val := by omega
  rw [← mask_eq V hD p t]
  unfold res_main_v28
  clean_types
  pointwise [row]

/-- The estimate at a time that the mask keeps, as a real number. -/
theorem estimate_eq (p : Fin 8) (t : Fin 2038) (j : Fin 10) (i : Fin 80) (h : t.val < (argL V p).toNat - 10) :
    (res_main_v40 V : FVec Ideal S8x2038x10x80 .f32) (ix4 p t j i)
      = ((fitted (argX V p) (argW V) (argB V) (argW' V) (argB' V) t i : ℝ) : EReal) := by
  rw [estimate_at V p t j i (by rw [mask_eq V hD, decide_eq_true h]; rfl)]
  exact (estimate_real _ _ _ _ _ i hD.finite_w hD.finite_b).symm

/-- The targets after `k` steps at a time that the mask keeps: the frame less `k` estimates, as real numbers. -/
theorem targets_eq (k : ℕ) (p : Fin 8) (t : Fin 2038) (j : Fin 10) (i : Fin 80) (h : t.val < (argL V p).toNat - 10) :
    targets V k (ix4 p t j i) = (((argX V p ⟨j.val + 1 + t.val, by omega⟩ i).toReal
      - k * fitted (argX V p) (argW V) (argB V) (argW' V) (argB' V) t i : ℝ) : EReal) := by
  induction k with
  | zero =>
    obtain ⟨r, hr⟩ := hD.finite_x p ⟨j.val + 1 + t.val, by omega⟩ i
    rw [hr]
    simp only [Nat.cast_zero, zero_mul, sub_zero, EReal.toReal_coe]
    rw [← hr]
    exact target_at V p t j i (by rw [mask_eq V hD, decide_eq_true h]; rfl)
  | succ k ih =>
    show targets V k (ix4 p t j i) - (res_main_v40 V : FVec Ideal S8x2038x10x80 .f32) (ix4 p t j i) = _
    rw [ih, estimate_eq V hD p t j i h, ← EReal.coe_sub]
    congr 1
    push_cast
    ring

/-- The reference's term is the loss. -/
theorem loss_eq : Host.divf (res_main_v290 V) (constant S_ .f32 0x41200000#32)
    = fun _ => ((loss (argX V) (argL V) (argW V) (argB V) (argW' V) (argB' V) : ℝ) : EReal) := by
  rw [term_eq]
  funext j
  rw [result_at, loss, ← mean_total, EReal.coe_mul, ← coe_sum, Ideal.div_coe (show (10 : ℝ) ≠ 0 by norm_num)]
  refine congrArg (· * ((1 / 10 : ℝ) : EReal)) (Finset.sum_congr rfl fun k _ => ?_)
  refine squares_at _ _ (fun p => (argL V p).toNat - 10)
    (fun p t i => (k.val + 1 : ℝ) * fitted (argX V p) (argW V) (argB V) (argW' V) (argB' V) t i - window (argX V p) t i / 10)
    (flat_mask_eq V hD) fun p t i h => ?_
  rw [diff_at _ _ p t i _ _ (fun j => estimate_eq V hD p t j i h) fun j => targets_eq V hD k.val p t j i h]
  congr 1
  rw [Finset.sum_sub_distrib]
  simp only [Finset.sum_const, Finset.card_univ, Fintype.card_fin, nsmul_eq_mul, window]
  push_cast
  ring

end Cert.ReferenceIdeal.Value
-- ==== Proof.Claims.lean ====
/- The five claims: the three programs run and end quietly, the named constants denote what their table says, and the
   kernel ends with the reference's result. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KernelRun
public import proofs.«01_k».proof.Proof.Range
public import proofs.«01_k».proof.Proof.Reference
public import Idealize.ShloMosaic.Lib.Quiescent

@[expose] public section

set_option maxRecDepth 16384

noncomputable section

open Idealize.ShloMosaic Idealize.ShloMosaic.TcCoe Idealize.SL.Sem Idealize.ShloMosaic.StableHlo

namespace Cert.Loss

/-- The kernel on words runs, ends with every counter at zero, and leaves its arguments unchanged. -/
theorem kernel_quiet : Cert.quiescent_Kernel := fun m ρ _ =>
  Cert.Kernel.Gen.frame m ρ (by unfold Cert.Kernel.Gen.Ok Cert.Kernel.ok0; trivial)

/-- The kernel with named constants runs, ends with every counter at zero, and leaves its arguments unchanged. -/
theorem named_kernel_quiet : Cert.quiescent_KernelIdeal := fun m ρ _ =>
  Cert.KernelIdeal.Gen.frame m ρ (by unfold Cert.KernelIdeal.Gen.Ok Cert.KernelIdeal.ok0; trivial)

/-- The same from arguments that the precondition admits. -/
theorem named_kernel_quiet_in_range : Cert.quiescent_KernelIdeal_pre_in_range := fun m ρ _ =>
  Cert.KernelIdeal.Gen.frame m ρ (by unfold Cert.KernelIdeal.Gen.Ok Cert.KernelIdeal.ok0; trivial)

/-- The reference runs, ends with every counter at zero, and leaves its arguments unchanged. -/
theorem reference_quiet : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- The same from arguments that the precondition admits. -/
theorem reference_quiet_in_range : Cert.quiescent_ReferenceIdeal_pre_in_range := fun m ρ _ =>
  (θ_run Cert.ReferenceIdeal.defs _ _).mono
    (fun r h => ⟨fun c => (h c).2, sem_eq_zero_of_no_sems (by decide) r.2⟩)
    (Cert.ReferenceIdeal.Value.run m ρ)

/-- The two named constants denote 11/10 and 1/100. -/
theorem constants_named : Cert.preserves_Kernel_KernelIdeal :=
  ⟨IdealRules.named_const.statement Cert.KernelIdeal.κ "two_k1_over_n" .f32 0x3F8CCCCD#32 ((11 / 10 : ℝ) : EReal) rfl,
    IdealRules.named_const.statement Cert.KernelIdeal.κ "inv_n2" .f32 0x3C23D70A#32 ((1 / 100 : ℝ) : EReal) rfl⟩

/-- On finite data of admissible lengths the kernel and the reference both end with the loss of the arguments. -/
theorem same_loss : Cert.algebraic_KernelIdeal_ReferenceIdeal_pre_in_range := by
  intro m g m' g' hpre hagree
  have hD := fun c => Cert.KernelIdeal.Value.drawn m c hpre
  refine ⟨fun c _ => Cert.KernelIdeal.Value.answer m c, Cert.KernelIdeal.Value.run_answer m g hD, ?_⟩
  refine (θ_run Cert.ReferenceIdeal.defs _ _).mono (fun r h c => ⟨(h c).1.trans ?_, (h c).2⟩)
    (Cert.ReferenceIdeal.Value.run m' g')
  obtain ⟨h0, h1, -, h3, h4, h5, h6⟩ := hagree c
  have e0 : Cert.ReferenceIdeal.Value.argX (launchContents m' c) = Cert.KernelIdeal.Value.argX m c :=
    funext fun p => funext fun t => funext fun i => congrFun h0 (ix3 p t i)
  have e1 : Cert.ReferenceIdeal.Value.argL (launchContents m' c) = Cert.KernelIdeal.Value.argL m c :=
    funext fun p => congrFun h1 (ix1 p)
  have e3 : Cert.ReferenceIdeal.Value.argW (launchContents m' c) = Cert.KernelIdeal.Value.argW m c :=
    funext fun j => funext fun k => congrFun h3 (ix2 j k)
  have e4 : Cert.ReferenceIdeal.Value.argB (launchContents m' c) = Cert.KernelIdeal.Value.argB m c :=
    funext fun k => congrFun h4 (ix1 k)
  have e5 : Cert.ReferenceIdeal.Value.argW' (launchContents m' c) = Cert.KernelIdeal.Value.argW' m c :=
    funext fun k => funext fun i => congrFun h5 (ix2 k i)
  have e6 : Cert.ReferenceIdeal.Value.argB' (launchContents m' c) = Cert.KernelIdeal.Value.argB' m c :=
    funext fun i => congrFun h6 (ix1 i)
  refine (Cert.ReferenceIdeal.Value.loss_eq (launchContents m' c) (by rw [e0, e1, e5, e6]; exact hD c)).trans ?_
  rw [e0, e1, e3, e4, e5, e6]
  rfl

end Cert.Loss
-- ==== Proof.lean ====
/- The proof of the certificate's claim, from the claims proved one by one and the generated side conditions. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Claims

@[expose] public section

noncomputable section

namespace Cert.Proof

/-- Everything the certificate claims holds. -/
theorem claim : Cert.Claim :=
  ⟨Cert.Kernel.Gen.facts, Cert.KernelIdeal.Gen.facts, Cert.ReferenceIdeal.Gen.facts, Cert.Pre_in_range.Gen.facts,
    Cert.Loss.kernel_quiet, Cert.Loss.named_kernel_quiet, Cert.Loss.named_kernel_quiet_in_range,
    Cert.Loss.reference_quiet, Cert.Loss.reference_quiet_in_range, Cert.Loss.constants_named, Cert.Loss.same_loss⟩

end Cert.Proof

end
